-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S3x2x3x256x768 : Shape := ⟨5, ![3, 2, 3, 256, 768]⟩
abbrev S3x2x512x768 : Shape := ⟨4, ![3, 2, 512, 768]⟩
abbrev S3x2x3 : Shape := ⟨3, ![3, 2, 3]⟩
abbrev S3x2x2 : Shape := ⟨3, ![3, 2, 2]⟩
abbrev S_ : Shape := ⟨0, ![]⟩
abbrev S1x1x1 : Shape := ⟨3, ![1, 1, 1]⟩
abbrev S1x1x1x256x768 : Shape := ⟨5, ![1, 1, 1, 256, 768]⟩
abbrev S256x768 : Shape := ⟨2, ![256, 768]⟩
abbrev S128x768 : Shape := ⟨2, ![128, 768]⟩
abbrev S1x1x1x128x768 : Shape := ⟨5, ![1, 1, 1, 128, 768]⟩
abbrev S1x1x128x768 : Shape := ⟨4, ![1, 1, 128, 768]⟩
abbrev S1x1x256x768 : Shape := ⟨4, ![1, 1, 256, 768]⟩

abbrev nBuf : Space → Nat
  | .hbm => 3
  | .vmem => 6
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S1536x1536, .bf16⟩
  | .local _ .vmem, ⟨4, _⟩ => ⟨S3x2x3x256x768, .bf16⟩
  | .local _ .vmem, ⟨5, _⟩ => ⟨S3x2x512x768, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_24 : BitVec 32 := 1#32
  let v62 : BitVec 32 := Scalar.muli v58 c1_i32_24
  let v63 : BitVec 32 := Scalar.addi c0_i32_25 v62
  v63.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_27 : BitVec 32 := 1#32
  let v64 : BitVec 32 := Scalar.muli v59 c1_i32_27
  let v65 : BitVec 32 := Scalar.addi c0_i32_28 v64
  v65.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_30 : BitVec 32 := 1#32
  let v66 : BitVec 32 := Scalar.muli v60 c1_i32_30
  let v67 : BitVec 32 := Scalar.addi c0_i32_31 v66
  v67.toNat
def k0_off1 (d0 : Dev nD) : Fin 2 → Nat :=
  let c0_i32_54 : BitVec 32 := 0#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v69 : BitVec 32 := Scalar.subi c1_i32_32 v21
  let c256_i32_33 : BitVec 32 := 256#32
  let v70 : BitVec 32 := Scalar.muli v69 c256_i32_33
  let v101 : BitVec 32 := Scalar.addi c0_i32_54 v70
  let c0_i32_68 : BitVec 32 := 0#32
  ![v101.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_64 : BitVec 32 := 1#32
  let v102 : BitVec 32 := Scalar.muli v58 c1_i32_64
  let v103 : BitVec 32 := Scalar.addi c0_i32_65 v102
  v103.toNat
def k0_off2 (d0 : Dev nD) : Fin 2 → Nat :=
  let c0_i32_69 : BitVec 32 := 0#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v69 : BitVec 32 := Scalar.subi c1_i32_32 v21
  let c256_i32_33 : BitVec 32 := 256#32
  let v70 : BitVec 32 := Scalar.muli v69 c256_i32_33
  let v111 : BitVec 32 := Scalar.addi c0_i32_69 v70
  let c768_i32 : BitVec 32 := 768#32
  ![v111.toNat, 768]
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_79 : BitVec 32 := 1#32
  let v112 : BitVec 32 := Scalar.muli v58 c1_i32_79
  let v113 : BitVec 32 := Scalar.addi c0_i32_80 v112
  v113.toNat
def k0_off3 (d0 : Dev nD) (c512_i32 : BitVec 32) (c2_i32_6 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v77 : BitVec 32 := Scalar.subi c1_i32_37 v39
  let c256_i32_38 : BitVec 32 := 256#32
  let v78 : BitVec 32 := Scalar.muli v77 c256_i32_38
  let v121 : BitVec 32 := Scalar.addi c512_i32 v78
  let c0_i32_96 : BitVec 32 := 0#32
  ![v121.toNat, 0]
def k0_off3_at (r : Fin 2) : BitVec 32 × BitVec 32 :=
  if r.val < 1 then
    (512#32, 2#32)
  else
    (1024#32, 4#32)
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_92 : BitVec 32 := 1#32
  let v122 : BitVec 32 := Scalar.muli v59 c1_i32_92
  let v123 : BitVec 32 := Scalar.addi c0_i32_93 v122
  v123.toNat
def k0_off4 (d0 : Dev nD) (c512_i32_97 : BitVec 32) (c2_i32_6 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v77 : BitVec 32 := Scalar.subi c1_i32_37 v39
  let c256_i32_38 : BitVec 32 := 256#32
  let v78 : BitVec 32 := Scalar.muli v77 c256_i32_38
  let v131 : BitVec 32 := Scalar.addi c512_i32_97 v78
  let c768_i32_111 : BitVec 32 := 768#32
  ![v131.toNat, 768]
def k0_off4_at (r : Fin 2) : BitVec 32 × BitVec 32 :=
  if r.val < 1 then
    (512#32, 2#32)
  else
    (1024#32, 4#32)
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_107 : BitVec 32 := 1#32
  let v132 : BitVec 32 := Scalar.muli v59 c1_i32_107
  let v133 : BitVec 32 := Scalar.addi c0_i32_108 v132
  v133.toNat
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_121 : BitVec 32 := 1#32
  let v142 : BitVec 32 := Scalar.muli v60 c1_i32_121
  let v143 : BitVec 32 := Scalar.addi c0_i32_122 v142
  v143.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_136 : BitVec 32 := 1#32
  let v152 : BitVec 32 := Scalar.muli v60 c1_i32_136
  let v153 : BitVec 32 := Scalar.addi c0_i32_137 v152
  v153.toNat
def k0_off5 (d0 : Dev nD) : Fin 2 → Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v170 : BitVec 32 := Scalar.addi c0_i32_155 v75
  let v171 : Index := Scalar.indexCast v170
  let c0_156 : Index := 0#32
  ![v171.toNat, 0]
def k0_off6 (d0 : Dev nD) : Fin 5 → Nat :=
  let c0_157 : Index := 0#32
  let c0_158 : Index := 0#32
  let c0_159 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v168 : BitVec 32 := Scalar.subi v75 v68
  let v173 : Index := Scalar.indexCast v168
  let c0_160 : Index := 0#32
  ![0, 0, 0, v173.toNat, 0]
def k0_off7 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v182 : BitVec 32 := Scalar.addi c0_i32_163 v75
  let c0_i32_177 : BitVec 32 := 0#32
  ![v182.toNat, 0]
def k0_dev10 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_173 : BitVec 32 := 1#32
  let v183 : BitVec 32 := Scalar.muli v59 c1_i32_173
  let v184 : BitVec 32 := Scalar.addi c0_i32_174 v183
  v184.toNat
def k0_off8 (d0 : Dev nD) : Fin 2 → Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v192 : BitVec 32 := Scalar.addi c0_i32_178 v72
  let v193 : Index := Scalar.indexCast v192
  let c0_179 : Index := 0#32
  ![v193.toNat, 0]
def k0_off9 (d0 : Dev nD) : Fin 5 → Nat :=
  let c0_180 : Index := 0#32
  let c0_181 : Index := 0#32
  let c0_182 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v169 : BitVec 32 := Scalar.subi v72 v68
  let v195 : Index := Scalar.indexCast v169
  let c0_183 : Index := 0#32
  ![0, 0, 0, v195.toNat, 0]
def k0_off10 (d0 : Dev nD) : Fin 2 → Nat :=
  let c512_i32_200 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v213 : BitVec 32 := Scalar.addi c512_i32_200 v83
  let v214 : Index := Scalar.indexCast v213
  let c0_201 : Index := 0#32
  ![v214.toNat, 0]
def k0_off11 (d0 : Dev nD) : Fin 5 → Nat :=
  let c1 : Index := 1#32
  let c0_202 : Index := 0#32
  let c0_203 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v211 : BitVec 32 := Scalar.subi v83 v76
  let v216 : Index := Scalar.indexCast v211
  let c0_204 : Index := 0#32
  ![1, 0, 0, v216.toNat, 0]
def k0_off12 (d0 : Dev nD) : Fin 2 → Nat :=
  let c512_i32_207 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v225 : BitVec 32 := Scalar.addi c512_i32_207 v83
  let c0_i32_221 : BitVec 32 := 0#32
  ![v225.toNat, 0]
def k0_dev11 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_217 : BitVec 32 := 1#32
  let v226 : BitVec 32 := Scalar.muli v60 c1_i32_217
  let v227 : BitVec 32 := Scalar.addi c0_i32_218 v226
  v227.toNat
def k0_off13 (d0 : Dev nD) : Fin 2 → Nat :=
  let c512_i32_222 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v235 : BitVec 32 := Scalar.addi c512_i32_222 v80
  let v236 : Index := Scalar.indexCast v235
  let c0_223 : Index := 0#32
  ![v236.toNat, 0]
def k0_off14 (d0 : Dev nD) : Fin 5 → Nat :=
  let c1_224 : Index := 1#32
  let c0_225 : Index := 0#32
  let c0_226 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v212 : BitVec 32 := Scalar.subi v80 v76
  let v238 : Index := Scalar.indexCast v212
  let c0_227 : Index := 0#32
  ![1, 0, 0, v238.toNat, 0]
def k0_off15 (d0 : Dev nD) : Fin 2 → Nat :=
  let c1024_i32_244 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v256 : BitVec 32 := Scalar.addi c1024_i32_244 v91
  let v257 : Index := Scalar.indexCast v256
  let c0_245 : Index := 0#32
  ![v257.toNat, 0]
def k0_off16 (d0 : Dev nD) : Fin 5 → Nat :=
  let c2 : Index := 2#32
  let c0_246 : Index := 0#32
  let c0_247 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v254 : BitVec 32 := Scalar.subi v91 v84
  let v259 : Index := Scalar.indexCast v254
  let c0_248 : Index := 0#32
  ![2, 0, 0, v259.toNat, 0]
def k0_off17 (d0 : Dev nD) : Fin 2 → Nat :=
  let c1024_i32_251 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v268 : BitVec 32 := Scalar.addi c1024_i32_251 v91
  let c0_i32_265 : BitVec 32 := 0#32
  ![v268.toNat, 0]
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_261 : BitVec 32 := 1#32
  let v269 : BitVec 32 := Scalar.muli v58 c1_i32_261
  let v270 : BitVec 32 := Scalar.addi c0_i32_262 v269
  v270.toNat
def k0_off18 (d0 : Dev nD) : Fin 2 → Nat :=
  let c1024_i32_266 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v278 : BitVec 32 := Scalar.addi c1024_i32_266 v88
  let v279 : Index := Scalar.indexCast v278
  let c0_267 : Index := 0#32
  ![v279.toNat, 0]
def k0_off19 (d0 : Dev nD) : Fin 5 → Nat :=
  let c2_268 : Index := 2#32
  let c0_269 : Index := 0#32
  let c0_270 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v255 : BitVec 32 := Scalar.subi v88 v84
  let v281 : Index := Scalar.indexCast v255
  let c0_271 : Index := 0#32
  ![2, 0, 0, v281.toNat, 0]
def k0_off20 (d0 : Dev nD) : Fin 2 → Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v299 : BitVec 32 := Scalar.addi c0_i32_288 v75
  let v300 : Index := Scalar.indexCast v299
  let c768 : Index := 768#32
  ![v300.toNat, 768]
def k0_off21 (d0 : Dev nD) : Fin 5 → Nat :=
  let c0_289 : Index := 0#32
  let c1_290 : Index := 1#32
  let c0_291 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v297 : BitVec 32 := Scalar.subi v75 v68
  let v302 : Index := Scalar.indexCast v297
  let c0_292 : Index := 0#32
  ![0, 1, 0, v302.toNat, 0]
def k0_off22 (d0 : Dev nD) : Fin 2 → Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v311 : BitVec 32 := Scalar.addi c0_i32_295 v75
  let c768_i32_309 : BitVec 32 := 768#32
  ![v311.toNat, 768]
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_305 : BitVec 32 := 1#32
  let v312 : BitVec 32 := Scalar.muli v59 c1_i32_305
  let v313 : BitVec 32 := Scalar.addi c0_i32_306 v312
  v313.toNat
def k0_off23 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v321 : BitVec 32 := Scalar.addi c0_i32_310 v72
  let v322 : Index := Scalar.indexCast v321
  let c768_311 : Index := 768#32
  ![v322.toNat, 768]
def k0_off24 (d0 : Dev nD) : Fin 5 → Nat :=
  let c0_312 : Index := 0#32
  let c1_313 : Index := 1#32
  let c0_314 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v298 : BitVec 32 := Scalar.subi v72 v68
  let v324 : Index := Scalar.indexCast v298
  let c0_315 : Index := 0#32
  ![0, 1, 0, v324.toNat, 0]
def k0_off25 (d0 : Dev nD) : Fin 2 → Nat :=
  let c512_i32_332 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v342 : BitVec 32 := Scalar.addi c512_i32_332 v83
  let v343 : Index := Scalar.indexCast v342
  let c768_333 : Index := 768#32
  ![v343.toNat, 768]
def k0_off26 (d0 : Dev nD) : Fin 5 → Nat :=
  let c1_334 : Index := 1#32
  let c1_335 : Index := 1#32
  let c0_336 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v340 : BitVec 32 := Scalar.subi v83 v76
  let v345 : Index := Scalar.indexCast v340
  let c0_337 : Index := 0#32
  ![1, 1, 0, v345.toNat, 0]
def k0_off27 (d0 : Dev nD) : Fin 2 → Nat :=
  let c512_i32_340 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v354 : BitVec 32 := Scalar.addi c512_i32_340 v83
  let c768_i32_354 : BitVec 32 := 768#32
  ![v354.toNat, 768]
def k0_dev14 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_350 : BitVec 32 := 1#32
  let v355 : BitVec 32 := Scalar.muli v60 c1_i32_350
  let v356 : BitVec 32 := Scalar.addi c0_i32_351 v355
  v356.toNat
def k0_off28 (d0 : Dev nD) : Fin 2 → Nat :=
  let c512_i32_355 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v364 : BitVec 32 := Scalar.addi c512_i32_355 v80
  let v365 : Index := Scalar.indexCast v364
  let c768_356 : Index := 768#32
  ![v365.toNat, 768]
def k0_off29 (d0 : Dev nD) : Fin 5 → Nat :=
  let c1_357 : Index := 1#32
  let c1_358 : Index := 1#32
  let c0_359 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v341 : BitVec 32 := Scalar.subi v80 v76
  let v367 : Index := Scalar.indexCast v341
  let c0_360 : Index := 0#32
  ![1, 1, 0, v367.toNat, 0]
def k0_off30 (d0 : Dev nD) : Fin 2 → Nat :=
  let c1024_i32_377 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v385 : BitVec 32 := Scalar.addi c1024_i32_377 v91
  let v386 : Index := Scalar.indexCast v385
  let c768_378 : Index := 768#32
  ![v386.toNat, 768]
def k0_off31 (d0 : Dev nD) : Fin 5 → Nat :=
  let c2_379 : Index := 2#32
  let c1_380 : Index := 1#32
  let c0_381 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v383 : BitVec 32 := Scalar.subi v91 v84
  let v388 : Index := Scalar.indexCast v383
  let c0_382 : Index := 0#32
  ![2, 1, 0, v388.toNat, 0]
def k0_off32 (d0 : Dev nD) : Fin 2 → Nat :=
  let c1024_i32_385 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v397 : BitVec 32 := Scalar.addi c1024_i32_385 v91
  let c768_i32_399 : BitVec 32 := 768#32
  ![v397.toNat, 768]
def k0_dev15 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_395 : BitVec 32 := 1#32
  let v398 : BitVec 32 := Scalar.muli v58 c1_i32_395
  let v399 : BitVec 32 := Scalar.addi c0_i32_396 v398
  v399.toNat
def k0_off33 (d0 : Dev nD) : Fin 2 → Nat :=
  let c1024_i32_400 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v407 : BitVec 32 := Scalar.addi c1024_i32_400 v88
  let v408 : Index := Scalar.indexCast v407
  let c768_401 : Index := 768#32
  ![v408.toNat, 768]
def k0_off34 (d0 : Dev nD) : Fin 5 → Nat :=
  let c2_402 : Index := 2#32
  let c1_403 : Index := 1#32
  let c0_404 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v384 : BitVec 32 := Scalar.subi v88 v84
  let v410 : Index := Scalar.indexCast v384
  let c0_405 : Index := 0#32
  ![2, 1, 0, v410.toNat, 0]
def k0_off35 (d0 : Dev nD) : Fin 2 → Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v437 : BitVec 32 := Scalar.addi c0_i32_431 v72
  let c0_i32_445 : BitVec 32 := 0#32
  ![v437.toNat, 0]
def k0_dev16 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_441 : BitVec 32 := 1#32
  let v438 : BitVec 32 := Scalar.muli v60 c1_i32_441
  let v439 : BitVec 32 := Scalar.addi c0_i32_442 v438
  v439.toNat
def k0_off36 (d0 : Dev nD) : Fin 2 → Nat :=
  let c512_i32_469 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v465 : BitVec 32 := Scalar.addi c512_i32_469 v80
  let c0_i32_483 : BitVec 32 := 0#32
  ![v465.toNat, 0]
def k0_dev17 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_479 : BitVec 32 := 1#32
  let v466 : BitVec 32 := Scalar.muli v58 c1_i32_479
  let v467 : BitVec 32 := Scalar.addi c0_i32_480 v466
  v467.toNat
def k0_off37 (d0 : Dev nD) : Fin 2 → Nat :=
  let c1024_i32_507 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v493 : BitVec 32 := Scalar.addi c1024_i32_507 v88
  let c0_i32_521 : BitVec 32 := 0#32
  ![v493.toNat, 0]
def k0_dev18 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_517 : BitVec 32 := 1#32
  let v494 : BitVec 32 := Scalar.muli v59 c1_i32_517
  let v495 : BitVec 32 := Scalar.addi c0_i32_518 v494
  v495.toNat
def k0_off38 (d0 : Dev nD) : Fin 2 → Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v521 : BitVec 32 := Scalar.addi c0_i32_545 v72
  let c768_i32_559 : BitVec 32 := 768#32
  ![v521.toNat, 768]
def k0_dev19 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_555 : BitVec 32 := 1#32
  let v522 : BitVec 32 := Scalar.muli v60 c1_i32_555
  let v523 : BitVec 32 := Scalar.addi c0_i32_556 v522
  v523.toNat
def k0_off39 (d0 : Dev nD) : Fin 2 → Nat :=
  let c512_i32_583 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v549 : BitVec 32 := Scalar.addi c512_i32_583 v80
  let c768_i32_597 : BitVec 32 := 768#32
  ![v549.toNat, 768]
def k0_dev20 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_593 : BitVec 32 := 1#32
  let v550 : BitVec 32 := Scalar.muli v58 c1_i32_593
  let v551 : BitVec 32 := Scalar.addi c0_i32_594 v550
  v551.toNat
def k0_off40 (d0 : Dev nD) : Fin 2 → Nat :=
  let c1024_i32_621 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v577 : BitVec 32 := Scalar.addi c1024_i32_621 v88
  let c768_i32_635 : BitVec 32 := 768#32
  ![v577.toNat, 768]
def k0_dev21 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_631 : BitVec 32 := 1#32
  let v578 : BitVec 32 := Scalar.muli v59 c1_i32_631
  let v579 : BitVec 32 := Scalar.addi c0_i32_632 v578
  v579.toNat
def k0_off41 (d0 : Dev nD) : Fin 4 → Nat :=
  let c0_658 : Index := 0#32
  let c0_659 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v602 : Index := Scalar.indexCast v72
  let c0_660 : Index := 0#32
  ![0, 0, v602.toNat, 0]
def k0_off42 (d0 : Dev nD) : Fin 4 → Nat :=
  let c0_i32_665 : BitVec 32 := 0#32
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let c0_i32_675 : BitVec 32 := 0#32
  ![0, 0, v72.toNat, 0]
def k0_dev22 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_673 : BitVec 32 := 1#32
  let v610 : BitVec 32 := Scalar.muli v59 c1_i32_673
  let v611 : BitVec 32 := Scalar.addi c0_i32_674 v610
  v611.toNat
def k0_off43 (d0 : Dev nD) : Fin 4 → Nat :=
  let c1_699 : Index := 1#32
  let c0_700 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v635 : Index := Scalar.indexCast v80
  let c0_701 : Index := 0#32
  ![1, 0, v635.toNat, 0]
def k0_off44 (d0 : Dev nD) : Fin 4 → Nat :=
  let c1_i32_706 : BitVec 32 := 1#32
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let c0_i32_716 : BitVec 32 := 0#32
  ![1, 0, v80.toNat, 0]
def k0_dev23 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_714 : BitVec 32 := 1#32
  let v643 : BitVec 32 := Scalar.muli v60 c1_i32_714
  let v644 : BitVec 32 := Scalar.addi c0_i32_715 v643
  v644.toNat
def k0_off45 (d0 : Dev nD) : Fin 4 → Nat :=
  let c2_740 : Index := 2#32
  let c0_741 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v668 : Index := Scalar.indexCast v88
  let c0_742 : Index := 0#32
  ![2, 0, v668.toNat, 0]
def k0_off46 (d0 : Dev nD) : Fin 4 → Nat :=
  let c2_i32_747 : BitVec 32 := 2#32
  let c0_i32_748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let c0_i32_757 : BitVec 32 := 0#32
  ![2, 0, v88.toNat, 0]
def k0_dev24 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_755 : BitVec 32 := 1#32
  let v676 : BitVec 32 := Scalar.muli v58 c1_i32_755
  let v677 : BitVec 32 := Scalar.addi c0_i32_756 v676
  v677.toNat
def k0_off47 (d0 : Dev nD) : Fin 4 → Nat :=
  let c0_781 : Index := 0#32
  let c1_782 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let v701 : Index := Scalar.indexCast v72
  let c0_783 : Index := 0#32
  ![0, 1, v701.toNat, 0]
def k0_off48 (d0 : Dev nD) : Fin 4 → Nat :=
  let c0_i32_788 : BitVec 32 := 0#32
  let c1_i32_789 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c128_i32 : BitVec 32 := 128#32
  let v71 : BitVec 32 := Scalar.muli v39 c128_i32
  let v72 : BitVec 32 := Scalar.addi v68 v71
  let c0_i32_798 : BitVec 32 := 0#32
  ![0, 1, v72.toNat, 0]
def k0_dev25 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_796 : BitVec 32 := 1#32
  let v709 : BitVec 32 := Scalar.muli v59 c1_i32_796
  let v710 : BitVec 32 := Scalar.addi c0_i32_797 v709
  v710.toNat
def k0_off49 (d0 : Dev nD) : Fin 4 → Nat :=
  let c1_822 : Index := 1#32
  let c1_823 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let v734 : Index := Scalar.indexCast v80
  let c0_824 : Index := 0#32
  ![1, 1, v734.toNat, 0]
def k0_off50 (d0 : Dev nD) : Fin 4 → Nat :=
  let c1_i32_829 : BitVec 32 := 1#32
  let c1_i32_830 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c128_i32_39 : BitVec 32 := 128#32
  let v79 : BitVec 32 := Scalar.muli v57 c128_i32_39
  let v80 : BitVec 32 := Scalar.addi v76 v79
  let c0_i32_839 : BitVec 32 := 0#32
  ![1, 1, v80.toNat, 0]
def k0_dev26 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_837 : BitVec 32 := 1#32
  let v742 : BitVec 32 := Scalar.muli v60 c1_i32_837
  let v743 : BitVec 32 := Scalar.addi c0_i32_838 v742
  v743.toNat
def k0_off51 (d0 : Dev nD) : Fin 4 → Nat :=
  let c2_863 : Index := 2#32
  let c1_864 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let v767 : Index := Scalar.indexCast v88
  let c0_865 : Index := 0#32
  ![2, 1, v767.toNat, 0]
def k0_off52 (d0 : Dev nD) : Fin 4 → Nat :=
  let c2_i32_870 : BitVec 32 := 2#32
  let c1_i32_871 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c128_i32_45 : BitVec 32 := 128#32
  let v87 : BitVec 32 := Scalar.muli v21 c128_i32_45
  let v88 : BitVec 32 := Scalar.addi v84 v87
  let c0_i32_880 : BitVec 32 := 0#32
  ![2, 1, v88.toNat, 0]
def k0_dev27 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_878 : BitVec 32 := 1#32
  let v775 : BitVec 32 := Scalar.muli v58 c1_i32_878
  let v776 : BitVec 32 := Scalar.addi c0_i32_879 v775
  v776.toNat
def k0_off53 (d0 : Dev nD) : Fin 4 → Nat :=
  let c0_i32_898 : BitVec 32 := 0#32
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_908 : BitVec 32 := 0#32
  ![0, 0, v68.toNat, 0]
def k0_dev28 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_906 : BitVec 32 := 1#32
  let v793 : BitVec 32 := Scalar.muli v58 c1_i32_906
  let v794 : BitVec 32 := Scalar.addi c0_i32_907 v793
  v794.toNat
def k0_off54 (d0 : Dev nD) : Fin 4 → Nat :=
  let c0_910 : Index := 0#32
  let c0_911 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v803 : Index := Scalar.indexCast v75
  let c0_912 : Index := 0#32
  ![0, 0, v803.toNat, 0]
def k0_off55 (d0 : Dev nD) : Fin 4 → Nat :=
  let c1_i32_931 : BitVec 32 := 1#32
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_941 : BitVec 32 := 0#32
  ![1, 0, v76.toNat, 0]
def k0_dev29 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_939 : BitVec 32 := 1#32
  let v818 : BitVec 32 := Scalar.muli v59 c1_i32_939
  let v819 : BitVec 32 := Scalar.addi c0_i32_940 v818
  v819.toNat
def k0_off56 (d0 : Dev nD) : Fin 4 → Nat :=
  let c1_943 : Index := 1#32
  let c0_944 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v828 : Index := Scalar.indexCast v83
  let c0_945 : Index := 0#32
  ![1, 0, v828.toNat, 0]
def k0_off57 (d0 : Dev nD) : Fin 4 → Nat :=
  let c2_i32_964 : BitVec 32 := 2#32
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32_974 : BitVec 32 := 0#32
  ![2, 0, v84.toNat, 0]
def k0_dev30 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_972 : BitVec 32 := 1#32
  let v843 : BitVec 32 := Scalar.muli v60 c1_i32_972
  let v844 : BitVec 32 := Scalar.addi c0_i32_973 v843
  v844.toNat
def k0_off58 (d0 : Dev nD) : Fin 4 → Nat :=
  let c2_976 : Index := 2#32
  let c0_977 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v853 : Index := Scalar.indexCast v91
  let c0_978 : Index := 0#32
  ![2, 0, v853.toNat, 0]
def k0_off59 (d0 : Dev nD) : Fin 4 → Nat :=
  let c0_i32_997 : BitVec 32 := 0#32
  let c1_i32_998 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c0_i32_1007 : BitVec 32 := 0#32
  ![0, 1, v68.toNat, 0]
def k0_dev31 (d0 : Dev nD) : Nat :=
  let c0_i32_1006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v58 : BitVec 32 := Scalar.xori v2 c1_i32_21
  let c1_i32_1005 : BitVec 32 := 1#32
  let v868 : BitVec 32 := Scalar.muli v58 c1_i32_1005
  let v869 : BitVec 32 := Scalar.addi c0_i32_1006 v868
  v869.toNat
def k0_off60 (d0 : Dev nD) : Fin 4 → Nat :=
  let c0_1009 : Index := 0#32
  let c1_1010 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let c256_i32 : BitVec 32 := 256#32
  let v68 : BitVec 32 := Scalar.muli v21 c256_i32
  let c1_i32_34 : BitVec 32 := 1#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v73 : BitVec 32 := Scalar.subi c1_i32_34 v39
  let c128_i32_35 : BitVec 32 := 128#32
  let v74 : BitVec 32 := Scalar.muli v73 c128_i32_35
  let v75 : BitVec 32 := Scalar.addi v68 v74
  let v878 : Index := Scalar.indexCast v75
  let c0_1011 : Index := 0#32
  ![0, 1, v878.toNat, 0]
def k0_off61 (d0 : Dev nD) : Fin 4 → Nat :=
  let c1_i32_1030 : BitVec 32 := 1#32
  let c1_i32_1031 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c0_i32_1040 : BitVec 32 := 0#32
  ![1, 1, v76.toNat, 0]
def k0_dev32 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v59 : BitVec 32 := Scalar.xori v2 c3_i32
  let c1_i32_1038 : BitVec 32 := 1#32
  let v893 : BitVec 32 := Scalar.muli v59 c1_i32_1038
  let v894 : BitVec 32 := Scalar.addi c0_i32_1039 v893
  v894.toNat
def k0_off62 (d0 : Dev nD) : Fin 4 → Nat :=
  let c1_1042 : Index := 1#32
  let c1_1043 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c256_i32_36 : BitVec 32 := 256#32
  let v76 : BitVec 32 := Scalar.muli v39 c256_i32_36
  let c1_i32_40 : BitVec 32 := 1#32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v81 : BitVec 32 := Scalar.subi c1_i32_40 v57
  let c128_i32_41 : BitVec 32 := 128#32
  let v82 : BitVec 32 := Scalar.muli v81 c128_i32_41
  let v83 : BitVec 32 := Scalar.addi v76 v82
  let v903 : Index := Scalar.indexCast v83
  let c0_1044 : Index := 0#32
  ![1, 1, v903.toNat, 0]
def k0_off63 (d0 : Dev nD) : Fin 4 → Nat :=
  let c2_i32_1063 : BitVec 32 := 2#32
  let c1_i32_1064 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c0_i32_1073 : BitVec 32 := 0#32
  ![2, 1, v84.toNat, 0]
def k0_dev33 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v60 : BitVec 32 := Scalar.xori v2 c4_i32_22
  let c1_i32_1071 : BitVec 32 := 1#32
  let v918 : BitVec 32 := Scalar.muli v60 c1_i32_1071
  let v919 : BitVec 32 := Scalar.addi c0_i32_1072 v918
  v919.toNat
def k0_off64 (d0 : Dev nD) : Fin 4 → Nat :=
  let c2_1075 : Index := 2#32
  let c1_1076 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let c256_i32_42 : BitVec 32 := 256#32
  let v84 : BitVec 32 := Scalar.muli v57 c256_i32_42
  let c1_i32_46 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v89 : BitVec 32 := Scalar.subi c1_i32_46 v21
  let c128_i32_47 : BitVec 32 := 128#32
  let v90 : BitVec 32 := Scalar.muli v89 c128_i32_47
  let v91 : BitVec 32 := Scalar.addi v84 v90
  let v928 : Index := Scalar.indexCast v91
  let c0_1077 : Index := 0#32
  ![2, 1, v928.toNat, 0]
def k0_off65 (d0 : Dev nD) : Fin 4 → Nat :=
  let c0_1094 : Index := 0#32
  let c0_1095 : Index := 0#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v69 : BitVec 32 := Scalar.subi c1_i32_32 v21
  let c256_i32_33 : BitVec 32 := 256#32
  let v70 : BitVec 32 := Scalar.muli v69 c256_i32_33
  let v943 : Index := Scalar.indexCast v70
  let c0_1096 : Index := 0#32
  ![0, 0, v943.toNat, 0]
def k0_off66 (d0 : Dev nD) : Fin 2 → Nat :=
  let c0_i32_1097 : BitVec 32 := 0#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v69 : BitVec 32 := Scalar.subi c1_i32_32 v21
  let c256_i32_33 : BitVec 32 := 256#32
  let v70 : BitVec 32 := Scalar.muli v69 c256_i32_33
  let v947 : BitVec 32 := Scalar.addi c0_i32_1097 v70
  let v948 : Index := Scalar.indexCast v947
  let c0_1098 : Index := 0#32
  ![v948.toNat, 0]
def k0_off67 (d0 : Dev nD) : Fin 4 → Nat :=
  let c1_1113 : Index := 1#32
  let c0_1114 : Index := 0#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v77 : BitVec 32 := Scalar.subi c1_i32_37 v39
  let c256_i32_38 : BitVec 32 := 256#32
  let v78 : BitVec 32 := Scalar.muli v77 c256_i32_38
  let v958 : Index := Scalar.indexCast v78
  let c0_1115 : Index := 0#32
  ![1, 0, v958.toNat, 0]
def k0_off68 (d0 : Dev nD) (c512_i32_1116 : BitVec 32) (c2_i32_6 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v77 : BitVec 32 := Scalar.subi c1_i32_37 v39
  let c256_i32_38 : BitVec 32 := 256#32
  let v78 : BitVec 32 := Scalar.muli v77 c256_i32_38
  let v962 : BitVec 32 := Scalar.addi c512_i32_1116 v78
  let v963 : Index := Scalar.indexCast v962
  let c0_1117 : Index := 0#32
  ![v963.toNat, 0]
def k0_off68_at (r : Fin 2) : BitVec 32 × BitVec 32 :=
  if r.val < 1 then
    (512#32, 2#32)
  else
    (1024#32, 4#32)
def k0_off69 (d0 : Dev nD) : Fin 4 → Nat :=
  let c2_1132 : Index := 2#32
  let c0_1133 : Index := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v85 : BitVec 32 := Scalar.subi c1_i32_43 v57
  let c256_i32_44 : BitVec 32 := 256#32
  let v86 : BitVec 32 := Scalar.muli v85 c256_i32_44
  let v973 : Index := Scalar.indexCast v86
  let c0_1134 : Index := 0#32
  ![2, 0, v973.toNat, 0]
def k0_off70 (d0 : Dev nD) : Fin 4 → Nat :=
  let c0_1151 : Index := 0#32
  let c1_1152 : Index := 1#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v69 : BitVec 32 := Scalar.subi c1_i32_32 v21
  let c256_i32_33 : BitVec 32 := 256#32
  let v70 : BitVec 32 := Scalar.muli v69 c256_i32_33
  let v988 : Index := Scalar.indexCast v70
  let c0_1153 : Index := 0#32
  ![0, 1, v988.toNat, 0]
def k0_off71 (d0 : Dev nD) : Fin 2 → Nat :=
  let c0_i32_1154 : BitVec 32 := 0#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v20 : BitVec 32 := Scalar.xori v2 v19
  let c1_i32_5 : BitVec 32 := 1#32
  let v21 : BitVec 32 := Scalar.andi v20 c1_i32_5
  let v69 : BitVec 32 := Scalar.subi c1_i32_32 v21
  let c256_i32_33 : BitVec 32 := 256#32
  let v70 : BitVec 32 := Scalar.muli v69 c256_i32_33
  let v992 : BitVec 32 := Scalar.addi c0_i32_1154 v70
  let v993 : Index := Scalar.indexCast v992
  let c768_1155 : Index := 768#32
  ![v993.toNat, 768]
def k0_off72 (d0 : Dev nD) : Fin 4 → Nat :=
  let c1_1170 : Index := 1#32
  let c1_1171 : Index := 1#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v77 : BitVec 32 := Scalar.subi c1_i32_37 v39
  let c256_i32_38 : BitVec 32 := 256#32
  let v78 : BitVec 32 := Scalar.muli v77 c256_i32_38
  let v1003 : Index := Scalar.indexCast v78
  let c0_1172 : Index := 0#32
  ![1, 1, v1003.toNat, 0]
def k0_off73 (d0 : Dev nD) (c512_i32_1173 : BitVec 32) (c2_i32_6 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v2 c2_i32_6
  let c0_i32_11 : BitVec 32 := 0#32
  let v35 : BitVec 1 := Scalar.cmpi .ne v34 c0_i32_11
  let v36 : BitVec 1 := Scalar.andi v33 v35
  let v22 : BitVec 32 := Scalar.divsi v2 c2_i32_6
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let v77 : BitVec 32 := Scalar.subi c1_i32_37 v39
  let c256_i32_38 : BitVec 32 := 256#32
  let v78 : BitVec 32 := Scalar.muli v77 c256_i32_38
  let v1007 : BitVec 32 := Scalar.addi c512_i32_1173 v78
  let v1008 : Index := Scalar.indexCast v1007
  let c768_1174 : Index := 768#32
  ![v1008.toNat, 768]
def k0_off73_at (r : Fin 2) : BitVec 32 × BitVec 32 :=
  if r.val < 1 then
    (512#32, 2#32)
  else
    (1024#32, 4#32)
def k0_off74 (d0 : Dev nD) : Fin 4 → Nat :=
  let c2_1189 : Index := 2#32
  let c1_1190 : Index := 1#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v41 : BitVec 1 := Scalar.cmpi .sgt v2 c0_i32_14
  let v42 : BitVec 32 := Scalar.extui v41
  let c0_i32_15 : BitVec 32 := 0#32
  let v43 : BitVec 1 := Scalar.cmpi .slt v2 c0_i32_15
  let v44 : BitVec 32 := Scalar.extui v43
  let v45 : BitVec 32 := Scalar.subi v42 v44
  let c4_i32 : BitVec 32 := 4#32
  let c0_i32_16 : BitVec 32 := 0#32
  let v46 : BitVec 1 := Scalar.cmpi .sgt c4_i32 c0_i32_16
  let v47 : BitVec 32 := Scalar.extui v46
  let c0_i32_17 : BitVec 32 := 0#32
  let v48 : BitVec 1 := Scalar.cmpi .slt c4_i32 c0_i32_17
  let v49 : BitVec 32 := Scalar.extui v48
  let v50 : BitVec 32 := Scalar.subi v47 v49
  let v51 : BitVec 1 := Scalar.cmpi .ne v45 v50
  let v52 : BitVec 32 := Scalar.remsi v2 c4_i32
  let c0_i32_18 : BitVec 32 := 0#32
  let v53 : BitVec 1 := Scalar.cmpi .ne v52 c0_i32_18
  let v54 : BitVec 1 := Scalar.andi v51 v53
  let v40 : BitVec 32 := Scalar.divsi v2 c4_i32
  let c1_i32_19 : BitVec 32 := 1#32
  let v55 : BitVec 32 := Scalar.subi v40 c1_i32_19
  let v56 : BitVec 32 := Scalar.select v54 v55 v40
  let c1_i32_20 : BitVec 32 := 1#32
  let v57 : BitVec 32 := Scalar.andi v56 c1_i32_20
  let v85 : BitVec 32 := Scalar.subi c1_i32_43 v57
  let c256_i32_44 : BitVec 32 := 256#32
  let v86 : BitVec 32 := Scalar.muli v85 c256_i32_44
  let v1018 : Index := Scalar.indexCast v86
  let c0_1191 : Index := 0#32
  ![2, 1, v1018.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mesh.lean ====
/-
The mesh and the transfers

Eight devices are the corners of a cube: a device has a side (0 or 1) along each of three dimensions, and flipping one
side names its neighbour along that dimension. The rows of the product are cut in three parts, the columns in two
halves; each (part, half) is a lane, and a lane makes five transfers, its stages. This module names the sides, the
neighbours, the rows a device keeps and sends at each stage, the semaphores, and what each buffer holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Sides and neighbours -/

/-- The side device `c` is on along dimension `d`: 0 or 1. -/
def side (d : Fin 3) (c : Dev nD) : ℕ :=
  match d with
  | 0 => (c.val + c.val / 2) % 2
  | 1 => (c.val / 2) % 2
  | 2 => (c.val / 4) % 2

set_option backward.proofsInPublic true in
/-- The neighbour of device `c` along dimension `d`: the device on the other side there and on the same side elsewhere. -/
def peer (d : Fin 3) (c : Dev nD) : Dev nD :=
  match d with
  | 0 => ⟨(c.val ^^^ 1) % 8, Nat.mod_lt _ (by decide)⟩
  | 1 => ⟨(c.val ^^^ 3) % 8, Nat.mod_lt _ (by decide)⟩
  | 2 => ⟨(c.val ^^^ 4) % 8, Nat.mod_lt _ (by decide)⟩

theorem peer_peer (d : Fin 3) (c : Dev nD) : peer d (peer d c) = c := by revert d c; decide
theorem peer_comm (d e : Fin 3) (c : Dev nD) : peer d (peer e c) = peer e (peer d c) := by revert d e c; decide
theorem side_peer (d : Fin 3) (c : Dev nD) : side d (peer d c) = 1 - side d c := by revert d c; decide
theorem side_peer_ne (d e : Fin 3) (c : Dev nD) (h : d ≠ e) : side d (peer e c) = side d c := by revert d e c; decide
theorem side_lt (d : Fin 3) (c : Dev nD) : side d c < 2 := by revert d c; decide
theorem dim_ne1 (p : Fin 3) : p ≠ p + 1 ∧ p + 1 ≠ p ∧ p ≠ p + 2 ∧ p + 1 ≠ p + 2 := by revert p; decide

/-- Going to the neighbour along one dimension permutes the devices. -/
def flip (d : Fin 3) : Dev nD ≃ Dev nD := ⟨peer d, peer d, peer_peer d, peer_peer d⟩

/-! ## Rows

In part `p` a device keeps, after the first stage, the half of the part's 512 rows on its side along dimension `p`, and
after the second the quarter on its side along dimension `p + 1`. -/

/-- First row of the half device `c` keeps at the first stage. -/
def rk0 (p : Fin 3) (c : Dev nD) : ℕ := 512 * p.val + 256 * side p c
/-- First row of the half it sends there. -/
def rs0 (p : Fin 3) (c : Dev nD) : ℕ := 512 * p.val + 256 * (1 - side p c)
/-- First row of the quarter it keeps at the second stage. -/
def rk1 (p : Fin 3) (c : Dev nD) : ℕ := rk0 p c + 128 * side (p + 1) c
/-- First row of the quarter it sends there. -/
def rs1 (p : Fin 3) (c : Dev nD) : ℕ := rk0 p c + 128 * (1 - side (p + 1) c)

theorem rows_bounds (p : Fin 3) (c : Dev nD) :
    (512 * p.val ≤ rk0 p c ∧ 512 * p.val ≤ rs0 p c ∧ (rs0 p c = rk0 p c + 256 ∨ rk0 p c = rs0 p c + 256) ∧ rk0 p c + 256 ≤ 512 * p.val + 512
      ∧ rs0 p c + 256 ≤ 512 * p.val + 512)
    ∧ ((rk1 p c = rk0 p c ∧ rs1 p c = rk0 p c + 128) ∨ (rs1 p c = rk0 p c ∧ rk1 p c = rk0 p c + 128)) := by
  have := side_lt p c; have := side_lt (p + 1) c
  unfold rk1 rs1 rk0 rs0
  omega

theorem rs0_peer (p : Fin 3) (c : Dev nD) : rs0 p (peer p c) = rk0 p c := by revert p c; decide
theorem rk0_peer (p : Fin 3) (c : Dev nD) : rk0 p (peer p c) = rs0 p c := by revert p c; decide
theorem rs1_peer (p : Fin 3) (c : Dev nD) : rs1 p (peer (p + 1) c) = rk1 p c := by revert p c; decide
theorem rk1_peer (p : Fin 3) (c : Dev nD) : rk1 p (peer (p + 1) c) = rs1 p c := by revert p c; decide
theorem rk0_peer1 (p : Fin 3) (c : Dev nD) : rk0 p (peer (p + 1) c) = rk0 p c := by revert p c; decide
theorem rk1_peer2 (p : Fin 3) (c : Dev nD) : rk1 p (peer (p + 2) c) = rk1 p c := by revert p c; decide

/-! ## Transfers and semaphores -/

/-- A transfer: its stage, its part, its column half. -/
abbrev X : Type := Fin 5 × Fin 3 × Fin 2

/-- The dimension a transfer crosses. -/
def xdim (x : X) : Fin 3 := x.2.1 + (![0, 1, 2, 1, 0] : Fin 5 → Fin 3) x.1
/-- The device that device `c`'s transfer `x` goes to (and the one whose transfer `x` comes to `c`). -/
def dest (x : X) (c : Dev nD) : Dev nD := peer (xdim x) c
theorem dest_dest (x : X) (c : Dev nD) : dest x (dest x c) = c := peer_peer _ c

/-- The number of a transfer's semaphore: the sending one (`false`) or the receiving one (`true`). -/
def semNo (b : Bool) (x : X) : ℕ :=
  if x.1.val < 3 then (if b then 21 else 3) + 6 * x.2.1.val + 3 * x.2.2.val + x.1.val
  else (if b then 51 else 39) + 4 * x.2.1.val + 2 * x.2.2.val + (x.1.val - 3)

theorem semNo_lt (b : Bool) (x : X) : semNo b x < 63 := by
  unfold semNo; have := x.1.isLt; have := x.2.1.isLt; have := x.2.2.isLt; split <;> split <;> omega

set_option backward.proofsInPublic true in
/-- A transfer's semaphore. -/
def xsem (b : Bool) (x : X) : DmaSem sig := ⟨semNo b x, Nat.lt_of_lt_of_eq (semNo_lt b x) (by decide)⟩

theorem semNo_inj (a b : Bool × X) (h : semNo a.1 a.2 = semNo b.1 b.2) : a = b := by
  obtain ⟨a, s, p, q⟩ := a; obtain ⟨b, s', p', q'⟩ := b
  simp only [semNo] at h
  have h1 := s.isLt; have h2 := p.isLt; have h3 := q.isLt; have h4 := s'.isLt; have h5 := p'.isLt; have h6 := q'.isLt
  have : a = b ∧ s.val = s'.val ∧ p.val = p'.val ∧ q.val = q'.val := by
    cases a <;> cases b <;> simp only [if_true, if_false, Bool.false_eq_true] at h <;> refine ⟨?_, ?_⟩ <;>
      first | rfl | (split at h <;> split at h <;> omega)
  obtain ⟨rfl, ha, hb, hc⟩ := this
  rw [Fin.ext ha, Fin.ext hb, Fin.ext hc]

/-- The barrier's semaphore. -/
abbrev barS : Sem sig := (SemArray.scalar (sig.barrier 0 rfl) : Sems sig S_).sem

/-- The semaphores this proof follows on a device: the barrier's (`none`) and both of every transfer. -/
abbrev KI : Type := Option (Bool × X)
def csem : KI → SemLoc sig
  | none => .reg barS
  | some (b, x) => .dma (xsem b x)

theorem csem_inj : Function.Injective csem := by
  rintro (_ | ⟨a⟩) (_ | ⟨b⟩) h
  · rfl
  · cases h
  · cases h
  · exact congrArg some (semNo_inj _ _ (congrArg Fin.val (SemLoc.dma.inj h)))

/-- Which of them a semaphore is, if any. -/
def dec (s : SemLoc sig) : Option KI := open Classical in if h : ∃ i, csem i = s then some h.choose else none

theorem dec_csem (i : KI) : dec (csem i) = some i := by
  have h : ∃ j, csem j = csem i := ⟨i, rfl⟩
  unfold dec; rw [dif_pos h]; exact congrArg some (csem_inj h.choose_spec)
theorem csem_dec {s : SemLoc sig} {i : KI} (h : dec s = some i) : s = csem i := by
  unfold dec at h; split at h
  · rename_i h'; rw [← Option.some.inj h]; exact h'.choose_spec.symm
  · cases h

/-- Device `c`'s cell of one of them. -/
abbrev kcell (ck : Dev nD × KI) : GSem nD τ sig := ((ck.1 : Thread nD τ), csem ck.2)
abbrev barCell (c : Dev nD) : GSem nD τ sig := kcell (c, none)
abbrev sndCell (x : X) (c : Dev nD) : GSem nD τ sig := kcell (c, some (false, x))
abbrev rcvCell (x : X) (c : Dev nD) : GSem nD τ sig := kcell (c, some (true, x))

theorem kcell_inj : Function.Injective kcell := by
  rintro ⟨c, i⟩ ⟨d, j⟩ h
  have h1 : c = d := congrArg (fun g : GSem nD τ sig => g.1.1) h
  have h2 : i = j := csem_inj (congrArg Prod.snd h)
  rw [h1, h2]

/-! ## The buffers -/

abbrev aM : Memref sig .tc .vmem S1536x768 .f32 := Memref.whole cc0_stg0_0
abbrev bM : Memref sig .tc .vmem S768x1536 .f32 := Memref.whole cc0_stg1_0
abbrev oM : Memref sig .tc .vmem S1536x1536 .f32 := Memref.whole cc0_stg2_0
/-- The partial products. -/
abbrev pM : Memref sig .tc .vmem S1536x1536 .bf16 := Memref.whole cc0_scratch0
/-- Where the first three stages land. -/
abbrev rM : Memref sig .tc .vmem S3x2x3x256x768 .bf16 := Memref.whole cc0_scratch1
/-- The finished quarters, and where the last two stages land. -/
abbrev gM : Memref sig .tc .vmem S3x2x512x768 .bf16 := Memref.whole cc0_scratch2

/-- `n` rows from row `r` on of column half `q`, as elements of the partial products or of the result. -/
def band (r n : ℕ) (q : Fin 2) : Finset S1536x1536.Idx :=
  Finset.univ.filter fun i => (r ≤ (i 0).val ∧ (i 0).val < r + n) ∧ (768 * q.val ≤ (i 1).val ∧ (i 1).val < 768 * q.val + 768)
/-- Rows `r` to `r + n` of the landing place of part `p`, half `q`, stage `j`. -/
def slot (p : Fin 3) (q : Fin 2) (j : Fin 3) (r n : ℕ) : Finset S3x2x3x256x768.Idx :=
  Finset.univ.filter fun i => (i 0).val = p.val ∧ (i 1).val = q.val ∧ (i 2).val = j.val ∧ r ≤ (i 3).val ∧ (i 3).val < r + n
/-- `n` rows from the product's row `r` on of column half `q`, as elements of the finished quarters of part `p`. -/
def agBand (p : Fin 3) (q : Fin 2) (r n : ℕ) : Finset S3x2x512x768.Idx :=
  Finset.univ.filter fun i => (i 0).val = p.val ∧ (i 1).val = q.val ∧ r ≤ 512 * p.val + (i 2).val ∧ 512 * p.val + (i 2).val < r + n

theorem mem_band {r n : ℕ} {q : Fin 2} {i : S1536x1536.Idx} :
    i ∈ band r n q ↔ (r ≤ (i 0).val ∧ (i 0).val < r + n) ∧ (768 * q.val ≤ (i 1).val ∧ (i 1).val < 768 * q.val + 768) := by
  simp [band]
theorem mem_slot {p : Fin 3} {q : Fin 2} {j : Fin 3} {r n : ℕ} {i : S3x2x3x256x768.Idx} :
    i ∈ slot p q j r n ↔ (i 0).val = p.val ∧ (i 1).val = q.val ∧ (i 2).val = j.val ∧ r ≤ (i 3).val ∧ (i 3).val < r + n := by
  simp [slot]
theorem mem_agBand {p : Fin 3} {q : Fin 2} {r n : ℕ} {i : S3x2x512x768.Idx} :
    i ∈ agBand p q r n ↔ (i 0).val = p.val ∧ (i 1).val = q.val ∧ r ≤ 512 * p.val + (i 2).val ∧ 512 * p.val + (i 2).val < r + n := by
  simp [agBand]

theorem band_union {r n n' : ℕ} {q : Fin 2} : band r n q ∪ band (r + n) n' q = band r (n + n') q := by
  ext i; simp only [Finset.mem_union, mem_band]; omega
theorem band_disj {r n r' n' : ℕ} {q : Fin 2} (h : r + n ≤ r' ∨ r' + n' ≤ r) : Disjoint (band r n q) (band r' n' q) :=
  Finset.disjoint_left.mpr fun i h1 h2 => by rw [mem_band] at h1 h2; omega
theorem slot_union {p : Fin 3} {q : Fin 2} {j : Fin 3} {r n n' : ℕ} : slot p q j r n ∪ slot p q j (r + n) n' = slot p q j r (n + n') := by
  ext i; simp only [Finset.mem_union, mem_slot]; omega
theorem slot_disj {p : Fin 3} {q : Fin 2} {j : Fin 3} {r n r' n' : ℕ} (h : r + n ≤ r' ∨ r' + n' ≤ r) : Disjoint (slot p q j r n) (slot p q j r' n') :=
  Finset.disjoint_left.mpr fun i h1 h2 => by rw [mem_slot] at h1 h2; omega
theorem agBand_union {p : Fin 3} {q : Fin 2} {r n n' : ℕ} : agBand p q r n ∪ agBand p q (r + n) n' = agBand p q r (n + n') := by
  ext i; simp only [Finset.mem_union, mem_agBand]; omega
theorem agBand_disj {p : Fin 3} {q : Fin 2} {r n r' n' : ℕ} (h : r + n ≤ r' ∨ r' + n' ≤ r) : Disjoint (agBand p q r n) (agBand p q r' n') :=
  Finset.disjoint_left.mpr fun i h1 h2 => by rw [mem_agBand] at h1 h2; omega

/-! ## What the buffers hold

`P c r k` stands for row `r`, column `k` of device `c`'s own partial product. -/

section Contents

variable {F : FTy → Type} [FloatOps F] (P : Dev nD → ℕ → ℕ → F .bf16)

/-- After the first stage: the sum over the two devices along the part's first dimension. -/
def A1 (p : Fin 3) (c : Dev nD) (r k : ℕ) : F .bf16 := FloatOps.addf (P c r k) (P (peer p c) r k)
/-- After the second stage: the sum over four devices. -/
def A2 (p : Fin 3) (c : Dev nD) (r k : ℕ) : F .bf16 := FloatOps.addf (A1 P p c r k) (A1 P p (peer (p + 1) c) r k)
/-- After the third stage: the sum over all eight, clipped below at zero. -/
def A3 (p : Fin 3) (c : Dev nD) (r k : ℕ) : F .bf16 :=
  FloatOps.maximumf (FloatOps.addf (A2 P p c r k) (A2 P p (peer (p + 2) c) r k)) (Scalar.ofBits .bf16 0x0000#16)

/-- The device that finished row `r` of part `p` among the four that differ from `c` along the part's first two dimensions. -/
def owner (p : Fin 3) (c : Dev nD) (r : ℕ) : Dev nD :=
  if r % 256 / 128 = side (p + 1) c then (if r % 512 / 256 = side p c then c else peer p c)
  else peer (p + 1) (if r % 512 / 256 = side p c then c else peer p c)

/-- The finished rows, as every one of those four devices ends up holding them. -/
def AG (p : Fin 3) (c : Dev nD) (r k : ℕ) : F .bf16 := A3 P p (owner p c r) r k

theorem owner_keep (p : Fin 3) (c : Dev nD) (r : ℕ) (h : rk1 p c ≤ r) (h' : r < rk1 p c + 128) : owner p c r = c := by
  have := side_lt p c; have := side_lt (p + 1) c
  unfold rk1 rk0 at h h'
  unfold owner; rw [if_pos (by omega), if_pos (by omega)]

theorem owner_peer0 (p : Fin 3) (c : Dev nD) (r : ℕ) : owner p (peer p c) r = owner p c r := by
  have h0 := side_lt p c; have := side_lt (p + 1) c
  have hr : r % 512 / 256 < 2 := by omega
  unfold owner
  rw [side_peer_ne (p + 1) p c (dim_ne1 p).2.1, side_peer, peer_peer]
  by_cases h : r % 512 / 256 = side p c
  · rw [if_pos h, if_neg (by omega : ¬ r % 512 / 256 = 1 - side p c)]
  · rw [if_neg h, if_pos (by omega : r % 512 / 256 = 1 - side p c)]

theorem owner_peer1 (p : Fin 3) (c : Dev nD) (r : ℕ) : owner p (peer (p + 1) c) r = owner p c r := by
  have h0 := side_lt p c; have := side_lt (p + 1) c
  have hr : r % 256 / 128 < 2 := by omega
  unfold owner
  rw [side_peer_ne p (p + 1) c (dim_ne1 p).1, side_peer]
  by_cases h : r % 256 / 128 = side (p + 1) c
  · rw [if_pos h, if_neg (by omega : ¬ r % 256 / 128 = 1 - side (p + 1) c)]
    split <;> simp only [peer_peer, peer_comm p (p + 1)]
  · rw [if_neg h, if_pos (by omega : r % 256 / 128 = 1 - side (p + 1) c)]
    split <;> simp only [peer_comm p (p + 1)]

theorem AG_peer0 (p : Fin 3) (c : Dev nD) : AG P p (peer p c) = AG P p c := by
  funext r k; unfold AG; rw [owner_peer0]
theorem AG_peer1 (p : Fin 3) (c : Dev nD) : AG P p (peer (p + 1) c) = AG P p c := by
  funext r k; unfold AG; rw [owner_peer1]
theorem AG_keep (p : Fin 3) (c : Dev nD) (r k : ℕ) (h : rk1 p c ≤ r) (h' : r < rk1 p c + 128) : AG P p c r k = A3 P p c r k := by
  unfold AG; rw [owner_keep p c r h h']

end Contents

end Cert.CubeProof
-- ==== Proof.Sched.lean ====
/-
The schedule

What each semaphore's credits hand over. A device's barrier has three duties, one per dimension: the neighbour along
that dimension hands over the places in its own buffers that this device's transfers land in. A transfer's sending
semaphore hands the sent rows back; its receiving semaphore hands over the landed rows, with what they hold.
-/
module

public import proofs.«01_k».proof.Proof.Mesh

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The windows as resources -/

abbrev PBuf (F : FTy → Type) : Type := S1536x1536.Idx → F .bf16

/-- The array whose entry in row `r`, column `k` is `G r k`. -/
def arr2 {α : Type} (G : ℕ → ℕ → α) : S1536x1536.Idx → α := fun i => G (i 0).val (i 1).val
/-- The landing array whose every slot holds `G` by its row and column in the slot. -/
def arr5 (G : ℕ → ℕ → F .bf16) : S3x2x3x256x768.Idx → F .bf16 := fun i => G (i 3).val (i 4).val
/-- The array of finished quarters holding `G` by the product's rows and columns. -/
def arr4 (G : ℕ → ℕ → F .bf16) : S3x2x512x768.Idx → F .bf16 :=
  fun i => G (512 * (i 0).val + (i 2).val) (768 * (i 1).val + (i 3).val)

/-- Device `c` holds share `π` of `n` rows from row `r` of column half `q` of its partial products, at `f`. -/
def pPt (c : Dev nD) (r n : ℕ) (q : Fin 2) (π : PosShare TreeShare) (f : S1536x1536.Idx → F .bf16) : sProp 𝕄 :=
  ((c : Thread nD τ).loc cc0_scratch0) ↦[band r n q]{π} f
/-- The same for the result. -/
def oPt (c : Dev nD) (r n : ℕ) (q : Fin 2) (f : S1536x1536.Idx → F .f32) : sProp 𝕄 :=
  ((c : Thread nD τ).loc cc0_stg2_0) ↦[band r n q]{fullShare} f
/-- The same for rows of a landing slot. -/
def rPt (c : Dev nD) (p : Fin 3) (q : Fin 2) (j : Fin 3) (r n : ℕ) (f : S3x2x3x256x768.Idx → F .bf16) : sProp 𝕄 :=
  ((c : Thread nD τ).loc cc0_scratch1) ↦[slot p q j r n]{fullShare} f
/-- The same for the finished quarters. -/
def gPt (c : Dev nD) (p : Fin 3) (q : Fin 2) (r n : ℕ) (π : PosShare TreeShare) (f : S3x2x512x768.Idx → F .bf16) : sProp 𝕄 :=
  ((c : Thread nD τ).loc cc0_scratch2) ↦[agBand p q r n]{π} f

instance pPt_storable (c : Dev nD) (r n q π) (f) : BI.Storable (upEmb : UEmb _ 𝕄) (pPt (F := F) c r n q π f) := by unfold pPt; infer_instance
instance rPt_storable (c : Dev nD) (p q j r n) (f) : BI.Storable (upEmb : UEmb _ 𝕄) (rPt (F := F) c p q j r n f) := by unfold rPt; infer_instance
instance gPt_storable (c : Dev nD) (p q r n π) (f) : BI.Storable (upEmb : UEmb _ 𝕄) (gPt (F := F) c p q r n π f) := by unfold gPt; infer_instance

/-! ## The payloads -/

variable (P : Dev nD → ℕ → ℕ → F .bf16)

/-- A transfer's credit on a semaphore: its rows are 256 at the first and last stage, 128 between. -/
def credit (x : X) : ℕ := if x.1 = 0 ∨ x.1 = 4 then 12288 else 6144
theorem credit_pos (x : X) : 0 < credit x := by unfold credit; split <;> decide

/-- The sent rows, as the sending semaphore hands them back. -/
def sendPay (x : X) (c : Dev nD) : sProp 𝕄 :=
  match x with
  | (0, p, q) => pPt c (rs0 p c) 256 q fullShare (arr2 (P c))
  | (1, p, q) => pPt c (rs1 p c) 128 q fullShare (arr2 (A1 P p c))
  | (2, p, q) => pPt c (rk1 p c) 128 q fullShare.left (arr2 (A2 P p c))
  | (3, p, q) => gPt c p q (rk1 p c) 128 fullShare.left (arr4 (AG P p c))
  | (4, p, q) => gPt c p q (rk0 p c) 256 fullShare.right (arr4 (AG P p c))

/-- The landed rows, as the receiving semaphore hands them over. -/
def recvPay (x : X) (c : Dev nD) : sProp 𝕄 :=
  match x with
  | (0, p, q) => rPt c p q 0 0 256 (arr5 fun r k => P (peer p c) (rk0 p c + r) (768 * q.val + k))
  | (1, p, q) => rPt c p q 1 0 128 (arr5 fun r k => A1 P p (peer (p + 1) c) (rk1 p c + r) (768 * q.val + k))
  | (2, p, q) => rPt c p q 2 0 128 (arr5 fun r k => A2 P p (peer (p + 2) c) (rk1 p c + r) (768 * q.val + k))
  | (3, p, q) => gPt c p q (rs1 p c) 128 fullShare (arr4 (AG P p c))
  | (4, p, q) => gPt c p q (rs0 p c) 256 fullShare (arr4 (AG P p c))

/-- The place on device `c` that transfer `x` lands in, holding anything. -/
def landAny (x : X) (c : Dev nD) : sProp 𝕄 :=
  match x with
  | (0, p, q) => iprop(∃ f, rPt c p q 0 0 256 f)
  | (1, p, q) => iprop(∃ f, rPt c p q 1 0 128 f)
  | (2, p, q) => iprop(∃ f, rPt c p q 2 0 128 f)
  | (3, p, q) => iprop(∃ f, gPt c p q (rs1 p c) 128 fullShare f)
  | (4, p, q) => iprop(∃ f, gPt c p q (rs0 p c) 256 fullShare f)

instance sendPay_storable (x : X) (c : Dev nD) : BI.Storable (upEmb : UEmb _ 𝕄) (sendPay P x c) := by
  obtain ⟨s, p, q⟩ := x; fin_cases s <;> (dsimp only [sendPay]; infer_instance)
instance recvPay_storable (x : X) (c : Dev nD) : BI.Storable (upEmb : UEmb _ 𝕄) (recvPay P x c) := by
  obtain ⟨s, p, q⟩ := x; fin_cases s <;> (dsimp only [recvPay]; infer_instance)
instance landAny_storable (x : X) (c : Dev nD) : BI.Storable (upEmb : UEmb _ 𝕄) (landAny (F := F) x c) := by
  obtain ⟨s, p, q⟩ := x; fin_cases s <;> (dsimp only [landAny]; infer_instance)

/-- The transfers across dimension `d`. -/
def across (d : Fin 3) : Finset X := Finset.univ.filter fun x => xdim x = d

theorem xdim_image : Finset.univ.image xdim = Finset.univ :=
  Finset.image_univ_of_surjective fun d => ⟨(0, d, 0), by revert d; decide⟩

/-- What the neighbour along dimension `d` hands device `c` at the barrier. -/
def barPay (c : Dev nD) (d : Fin 3) : sProp 𝕄 := bigSep (across d) fun x => landAny x (peer d c)

instance barPay_storable (c : Dev nD) (d : Fin 3) : BI.Storable (upEmb : UEmb _ 𝕄) (barPay (F := F) c d) := by
  unfold barPay; infer_instance

/-! ## The schedule -/

/-- One round of credits on every cell: a barrier has one duty per dimension, every transfer's semaphore one. -/
def Rd : Rounds.Schedule (GSem nD τ sig) (Fin 3) 𝕄 where
  duties g r := if r = 0 ∧ g.1.2 = .tc then (match dec g.2 with | some none => Finset.univ | some (some _) => {0} | none => ∅) else ∅
  unitless _ := False
  amount g _ _ := match dec g.2 with | some (some (_, x)) => credit x | _ => 1
  payload g _ d := match dec g.2 with
    | some none => barPay g.1.1 d
    | some (some (false, x)) => sendPay P x g.1.1
    | some (some (true, x)) => recvPay P x g.1.1
    | none => iprop(emp)
  amount_pos g _ _ _ := by
    rcases dec g.2 with _ | _ | ⟨b, x⟩
    · exact Nat.one_pos
    · exact Nat.one_pos
    · exact credit_pos x

instance Rd_payload_storable (g : GSem nD τ sig) (r : ℕ) (d : Fin 3) : BI.Storable (upEmb : UEmb _ 𝕄) ((Rd P).payload g r d) := by
  show BI.Storable upEmb (match dec g.2 with
    | some none => barPay g.1.1 d
    | some (some (false, x)) => sendPay P x g.1.1
    | some (some (true, x)) => recvPay P x g.1.1
    | none => iprop(emp))
  rcases dec g.2 with _ | _ | ⟨_ | _, x⟩ <;> dsimp only <;> infer_instance

theorem duties_bar (c : Dev nD) : (Rd P).duties (barCell c) 0 = Finset.univ := by
  dsimp only [Rd]; rw [dec_csem, if_pos ⟨rfl, rfl⟩]
theorem duties_x (c : Dev nD) (bx : Bool × X) : (Rd P).duties (kcell (c, some bx)) 0 = {0} := by
  dsimp only [Rd]; rw [dec_csem, if_pos ⟨rfl, rfl⟩]
theorem duties_later (g : GSem nD τ sig) : ∀ r, 1 ≤ r → (Rd P).duties g r = ∅ :=
  fun r hr => by dsimp only [Rd]; rw [if_neg fun h => by omega]
theorem amount_bar (c : Dev nD) (d : Fin 3) : (Rd P).amount (barCell c) 0 d = 1 := by dsimp only [Rd]; rw [dec_csem]
theorem amount_x (c : Dev nD) (bx : Bool × X) (d : Fin 3) : (Rd P).amount (kcell (c, some bx)) 0 d = credit bx.2 := by
  dsimp only [Rd]; rw [dec_csem]
theorem payload_bar (c : Dev nD) (d : Fin 3) : (Rd P).payload (barCell c) 0 d = barPay c d := by dsimp only [Rd]; rw [dec_csem]
theorem payload_snd (x : X) (c : Dev nD) (d : Fin 3) : (Rd P).payload (sndCell x c) 0 d = sendPay P x c := by dsimp only [Rd]; rw [dec_csem]
theorem payload_rcv (x : X) (c : Dev nD) (d : Fin 3) : (Rd P).payload (rcvCell x c) 0 d = recvPay P x c := by dsimp only [Rd]; rw [dec_csem]
theorem expect_bar (c : Dev nD) : (Rd P).expect (barCell c) 0 = 3 := by
  unfold Schedule.expect Schedule.amountOf
  rw [duties_bar, Finset.sum_congr rfl fun d _ => amount_bar P c d, Finset.sum_const, Finset.card_univ, Fintype.card_fin, smul_eq_mul]
theorem expect_x (c : Dev nD) (bx : Bool × X) : (Rd P).expect (kcell (c, some bx)) 0 = credit bx.2 := by
  unfold Schedule.expect Schedule.amountOf; rw [duties_x, Finset.sum_singleton, amount_x]
theorem rest_x (c : Dev nD) (bx : Bool × X) : bigSep ((Rd P).duties (kcell (c, some bx)) 0 \ ∅) (fun d => (Rd P).payload (kcell (c, some bx)) 0 d)
    = (Rd P).payload (kcell (c, some bx)) 0 0 := by
  rw [Finset.sdiff_empty, duties_x, bigSep_singleton]
/-- The three barrier duties together: every place the device's transfers land in. -/
theorem rest_bar (c : Dev nD) : bigSep ((Rd P).duties (barCell c) 0 \ ∅) (fun d => (Rd P).payload (barCell c) 0 d)
    = bigSep Finset.univ fun x : X => landAny (F := F) x (dest x c) := by
  rw [Finset.sdiff_empty, duties_bar, bigSep_congr fun d _ => payload_bar P c d]
  unfold barPay across
  rw [bigSep_fiberwise Finset.univ xdim (fun x => landAny (F := F) x (dest x c)), xdim_image]
  exact bigSep_congr fun d _ => bigSep_congr fun x hx => by rw [dest, (Finset.mem_filter.mp hx).2]

/-! ## What a device owes; the levels -/

/-- What device `c` owes for the transfers of a list, the first to be made outermost. -/
def debt (c : Dev nD) : List X → CellTallies nD τ sig Unit
  | [] => 0
  | x :: l => debt c l + tallyAt (rcvCell x (dest x c)) () (credit x)

/-- The transfers in the order the kernel starts them. -/
def order : List X :=
  [(0, 0, 0), (0, 0, 1), (0, 1, 0), (0, 1, 1), (0, 2, 0), (0, 2, 1),
   (1, 0, 0), (1, 1, 0), (1, 2, 0), (1, 0, 1), (1, 1, 1), (1, 2, 1),
   (2, 0, 0), (2, 1, 0), (2, 2, 0), (2, 0, 1), (2, 1, 1), (2, 2, 1),
   (3, 0, 0), (3, 1, 0), (3, 2, 0), (3, 0, 1), (3, 1, 1), (3, 2, 1),
   (4, 0, 0), (4, 1, 0), (4, 2, 0), (4, 0, 1), (4, 1, 1), (4, 2, 1)]

def O₃ (c : Dev nD) : CellTallies nD τ sig Unit := debt c order
def O₂ (c : Dev nD) : CellTallies nD τ sig Unit := O₃ c + tallyAt (barCell (peer 2 c)) () 1
def O₁ (c : Dev nD) : CellTallies nD τ sig Unit := O₂ c + tallyAt (barCell (peer 1 c)) () 1
/-- What device `c` owes at the start: one unit to each neighbour's barrier and every transfer's credit. -/
def O₀ (c : Dev nD) : CellTallies nD τ sig Unit := O₁ c + tallyAt (barCell (peer 0 c)) () 1

def L (g : GSem nD τ sig) : Finset Unit := if g.1.2 = .tc then {()} else ∅
/-- Barriers at 1, receiving semaphores above by stage, the rest at 0. -/
def lv (g : GSem nD τ sig) (_ : Unit) : ℕ :=
  match dec g.2 with | some none => 1 | some (some (true, x)) => x.1.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [dec_csem]
theorem lv_rcv (x : X) (c : Dev nD) : lv (rcvCell x c) () = x.1.val + 2 := by unfold lv; rw [dec_csem]

theorem tallyAt_pos {g g' : GSem nD τ sig} {n : ℕ} {u : Unit} (h : 0 < tallyAt g () n g' u) : g' = g := by
  rw [tallyAt_apply] at h; by_contra hn; rw [if_neg fun h' => hn h'.1] at h; exact Nat.lt_irrefl 0 h

theorem debt_pos {c : Dev nD} {l : List X} {g : GSem nD τ sig} {u : Unit} (h : 0 < debt c l g u) : ∃ x ∈ l, g = rcvCell x (dest x c) := by
  induction l with
  | nil => exact absurd h (Nat.lt_irrefl 0)
  | cons x l ih =>
    unfold debt at h
    rw [Pi.add_apply, Finsupp.add_apply] at h
    rcases Nat.add_pos_iff_pos_or_pos.mp h with h | h
    · obtain ⟨y, hy, he⟩ := ih h; exact ⟨y, List.mem_cons_of_mem _ hy, he⟩
    · exact ⟨x, List.mem_cons_self, tallyAt_pos h⟩

theorem O₀_pos {c : Dev nD} {g : GSem nD τ sig} {u : Unit} (h : 0 < O₀ c g u) :
    (∃ x, g = rcvCell x (dest x c)) ∨ ∃ d, g = barCell (peer d c) := by
  unfold O₀ O₁ O₂ O₃ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨x, _, he⟩ := debt_pos h; exact Or.inl ⟨x, he⟩
      · exact Or.inr ⟨2, tallyAt_pos h⟩
    · exact Or.inr ⟨1, tallyAt_pos h⟩
  · exact Or.inr ⟨0, tallyAt_pos h⟩

/-- A device may wait on a cell below every transfer it still owes. -/
theorem mayWait_debt (c : Dev nD) (sm : SemLoc sig) (l : List X) (h : ∀ x ∈ l, lv ((c : Thread nD τ), sm) () < x.1.val + 2) :
    (levAts L lv : sProp 𝕄) ⊢ MayWait (c : Thread nD τ) sm () (debt c l) :=
  Pipeline.mayWait_of_levAts (by rw [L_tc]; exact Finset.mem_singleton_self _) fun g u hg => by
    obtain ⟨x, hx, rfl⟩ := debt_pos hg
    exact ⟨by rw [L_tc]; exact Finset.mem_singleton_self _, (h x hx).trans_eq (lv_rcv x _).symm⟩

/-- A device may wait on a cell this proof does not follow whatever it owes of the launch's debts. -/
theorem mayWait_stage (c : Dev nD) (sm : SemLoc sig) (hs : dec sm = none) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    have h0 : lv ((c : Thread nD τ), sm) () = 0 := by unfold lv; rw [hs]
    rw [h0]
    rcases O₀_pos hg with ⟨x, rfl⟩ | ⟨d, rfl⟩
    · exact ⟨by rw [L_tc]; exact Finset.mem_singleton_self _, by rw [lv_rcv]; omega⟩
    · exact ⟨by rw [L_tc]; exact Finset.mem_singleton_self _, by rw [lv_bar]; omega⟩
  · rw [MayWait_zero]; iintro -; iempintro

end Cert.CubeProof
-- ==== Proof.Ops.lean ====
/-
One operation at a time

The rules for the kernel's loads, stores, transfers and waits, over the windows the proof follows.
-/
module

public import proofs.«01_k».proof.Proof.Sched
public import Idealize.ShloMosaic.Lib.ValueIdxCore

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Rectangles as windows -/

theorem rect2_set {off sz : Fin 2 → ℕ} {h} {r n : ℕ} {q : Fin 2} (ho : off = ![r, 768 * q.val]) (hs : sz = ![n, 768]) :
    (Rect.unit (s := S1536x1536) off sz h).set = band r n q := by
  subst ho hs; ext i
  rw [Rect.mem_set_unit, mem_band, Fin.forall_fin_two]
  exact Iff.rfl
theorem rect5_set {off sz : Fin 5 → ℕ} {h} {p : Fin 3} {q : Fin 2} {j : Fin 3} {r n : ℕ} (ho : off = ![p.val, q.val, j.val, r, 0])
    (hs : sz = ![1, 1, 1, n, 768]) : (Rect.unit (s := S3x2x3x256x768) off sz h).set = slot p q j r n := by
  subst ho hs; ext i
  rw [Rect.mem_set_unit, mem_slot]
  have h4 : (i 4).val < 768 := (i 4).isLt
  constructor
  · intro H
    have h0 : p.val ≤ (i 0).val ∧ (i 0).val < p.val + 1 := H 0
    have h1 : q.val ≤ (i 1).val ∧ (i 1).val < q.val + 1 := H 1
    have h2 : j.val ≤ (i 2).val ∧ (i 2).val < j.val + 1 := H 2
    have h3 : r ≤ (i 3).val ∧ (i 3).val < r + n := H 3
    omega
  · rintro ⟨h0, h1, h2, h3⟩ a
    fin_cases a
    · show p.val ≤ (i 0).val ∧ (i 0).val < p.val + 1; omega
    · show q.val ≤ (i 1).val ∧ (i 1).val < q.val + 1; omega
    · show j.val ≤ (i 2).val ∧ (i 2).val < j.val + 1; omega
    · exact h3
    · show 0 ≤ (i 4).val ∧ (i 4).val < 0 + 768; omega
theorem rect4_set {off sz : Fin 4 → ℕ} {h} {p : Fin 3} {q : Fin 2} {r n : ℕ} (ho : off = ![p.val, q.val, r - 512 * p.val, 0])
    (hr : 512 * p.val ≤ r) (hs : sz = ![1, 1, n, 768]) : (Rect.unit (s := S3x2x512x768) off sz h).set = agBand p q r n := by
  subst ho hs; ext i
  rw [Rect.mem_set_unit, mem_agBand]
  have h4 : (i 3).val < 768 := (i 3).isLt
  constructor
  · intro H
    have h0 : p.val ≤ (i 0).val ∧ (i 0).val < p.val + 1 := H 0
    have h1 : q.val ≤ (i 1).val ∧ (i 1).val < q.val + 1 := H 1
    have h2 : r - 512 * p.val ≤ (i 2).val ∧ (i 2).val < r - 512 * p.val + n := H 2
    omega
  · rintro ⟨h0, h1, h2, h3⟩ a
    fin_cases a
    · show p.val ≤ (i 0).val ∧ (i 0).val < p.val + 1; omega
    · show q.val ≤ (i 1).val ∧ (i 1).val < q.val + 1; omega
    · show r - 512 * p.val ≤ (i 2).val ∧ (i 2).val < r - 512 * p.val + n; omega
    · show 0 ≤ (i 3).val ∧ (i 3).val < 0 + 768; omega

/-! ## Squeezed indices -/

theorem sq5 {n : ℕ} (h : (⟨2, ![n, 768]⟩ : Shape).numel = (⟨5, ![1, 1, 1, n, 768]⟩ : Shape).numel) (x : (⟨2, ![n, 768]⟩ : Shape).Idx) :
    Shape.reshapeEquiv h x = ix5 (n3 := n) (n4 := 768) (0 : Fin 1) (0 : Fin 1) (0 : Fin 1) (x 0) (x 1) :=
  Shape.reshapeEquiv_eq_of_rowMajor h (by
    refine (Shape.rowMajor_val_five _).trans (Eq.trans ?_ (Shape.rowMajor_val_two _).symm)
    show ((((0 * 1 + 0) * 1 + 0) * n + (x 0).val) * 768 + (x 1).val) = (x 0).val * 768 + (x 1).val
    simp only [Nat.zero_mul, Nat.zero_add])
theorem sq4 {n : ℕ} (h : (⟨2, ![n, 768]⟩ : Shape).numel = (⟨4, ![1, 1, n, 768]⟩ : Shape).numel) (x : (⟨2, ![n, 768]⟩ : Shape).Idx) :
    Shape.reshapeEquiv h x = ix4 (n2 := n) (n3 := 768) (0 : Fin 1) (0 : Fin 1) (x 0) (x 1) :=
  Shape.reshapeEquiv_eq_of_rowMajor h (by
    refine (Shape.rowMajor_val_four _).trans (Eq.trans ?_ (Shape.rowMajor_val_two _).symm)
    show (((0 * 1 + 0) * n + (x 0).val) * 768 + (x 1).val) = (x 0).val * 768 + (x 1).val
    simp only [Nat.zero_mul, Nat.zero_add])
theorem unsq4 {n : ℕ} (h : (⟨4, ![1, 1, n, 768]⟩ : Shape).numel = (⟨2, ![n, 768]⟩ : Shape).numel) (x : (⟨4, ![1, 1, n, 768]⟩ : Shape).Idx) :
    Shape.reshapeEquiv h x = ix2 (n0 := n) (n1 := 768) (x 2) (x 3) :=
  Shape.reshapeEquiv_eq_of_rowMajor h (by
    refine (Shape.rowMajor_val_two _).trans (Eq.trans ?_ (Shape.rowMajor_val_four _).symm)
    have h0 : (x 0).val = 0 := by have : (x 0).val < 1 := (x 0).isLt; omega
    have h1 : (x 1).val = 0 := by have : (x 1).val < 1 := (x 1).isLt; omega
    show (x 2).val * 768 + (x 3).val = ((((x 0).val * 1 + (x 1).val) * n + (x 2).val) * 768 + (x 3).val)
    rw [h0, h1]; simp only [Nat.zero_mul, Nat.zero_add])

/-! ## Writes as contents -/

/-- Elements written all over hold what was written. -/
theorem pointsTo_written {κ : Kind} {sp : Space} {s : Shape} {e : EltTy} (v : View sig κ sp s e) (t : Thread nD τ) (hk : t.2.kind = κ)
    (π : PosShare TreeShare) (ℓ : Loc nD τ sig) (f g : v.ty.Contents (Elt F)) (w : s.Idx → Elt F e) (hg : v.read (Elt F) g = w) :
    ∀ i ∈ v.set, v.write (Elt F) f w Finset.univ i = g i := by
  intro i hi
  obtain ⟨x, -, rfl⟩ := Finset.mem_map.mp hi
  rw [View.write_emb_of_mem _ _ (Finset.mem_univ x), ← hg, View.read_apply, cast_cast, cast_eq]

section
variable (c : Dev nD) {α : Type} {Q : α → sProp (MT nD τ sig Unit (Elt F) ℕ UU ℕ)}

abbrev 𝒱₀ : Variants := Variants.none

/-- What the program does from here on. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads -/

theorem load_p {off sz : Fin 2 → ℕ} {h} {hl} {k} {r n : ℕ} {q : Fin 2} {π : PosShare TreeShare} {f}
    (ho : off = ![r, 768 * q.val]) (hs : sz = ![n, 768]) :
    pPt (F := F) c r n q π f ⊢ iprop((pPt c r n q π f -∗ run c (k (fun x => f ((Rect.unit (s := S1536x1536) off sz h).emb x))) Q)
      -∗ run c (.op (.load pM (Rect.unit (s := S1536x1536) off sz h).toLoadRect hl) k) Q) := by
  unfold pPt; rw [← rect2_set (h := h) ho hs]
  exact wp_load_rect 𝒱₀ (c : Thread nD τ) none Set.univ (m := pM) (r := Rect.unit (s := S1536x1536) off sz h)
    (by rw [View.set_slice_whole])
theorem load_o {off sz : Fin 2 → ℕ} {h} {hl} {k} {r n : ℕ} {q : Fin 2} {f}
    (ho : off = ![r, 768 * q.val]) (hs : sz = ![n, 768]) :
    oPt (F := F) c r n q f ⊢ iprop((oPt c r n q f -∗ run c (k (fun x => f ((Rect.unit (s := S1536x1536) off sz h).emb x))) Q)
      -∗ run c (.op (.load oM (Rect.unit (s := S1536x1536) off sz h).toLoadRect hl) k) Q) := by
  unfold oPt; rw [← rect2_set (h := h) ho hs]
  exact wp_load_rect 𝒱₀ (c : Thread nD τ) none Set.univ (m := oM) (r := Rect.unit (s := S1536x1536) off sz h)
    (by rw [View.set_slice_whole])
theorem load_r {off sz : Fin 5 → ℕ} {h} {hl} {k} {p : Fin 3} {q : Fin 2} {j : Fin 3} {r n m : ℕ} {f}
    (ho : off = ![p.val, q.val, j.val, r, 0]) (hs : sz = ![1, 1, 1, n, 768]) (hm : r + n ≤ m) :
    rPt (F := F) c p q j 0 m f ⊢ iprop((rPt c p q j 0 m f -∗ run c (k (fun x => f ((Rect.unit (s := S3x2x3x256x768) off sz h).emb x))) Q)
      -∗ run c (.op (.load rM (Rect.unit (s := S3x2x3x256x768) off sz h).toLoadRect hl) k) Q) := by
  unfold rPt
  exact wp_load_rect 𝒱₀ (c : Thread nD τ) none Set.univ (m := rM) (r := Rect.unit (s := S3x2x3x256x768) off sz h)
    (by
      rw [View.set_slice_whole, rect5_set ho hs]; intro i hi
      have hi := mem_slot.mp hi
      exact mem_slot.mpr ⟨hi.1, hi.2.1, hi.2.2.1, Nat.zero_le _, by omega⟩)
theorem load_g {off sz : Fin 4 → ℕ} {h} {hl} {k} {p : Fin 3} {q : Fin 2} {r n : ℕ} {π : PosShare TreeShare} {f}
    (ho : off = ![p.val, q.val, r - 512 * p.val, 0]) (hr : 512 * p.val ≤ r) (hs : sz = ![1, 1, n, 768]) :
    gPt (F := F) c p q r n π f ⊢ iprop((gPt c p q r n π f -∗ run c (k (fun x => f ((Rect.unit (s := S3x2x512x768) off sz h).emb x))) Q)
      -∗ run c (.op (.load gM (Rect.unit (s := S3x2x512x768) off sz h).toLoadRect hl) k) Q) := by
  unfold gPt; rw [← rect4_set (h := h) ho hr hs]
  exact wp_load_rect 𝒱₀ (c : Thread nD τ) none Set.univ (m := gM) (r := Rect.unit (s := S3x2x512x768) off sz h)
    (by rw [View.set_slice_whole])

/-! ## Stores -/

theorem store_p {off sz : Fin 2 → ℕ} {h} {w hx hm} {k} {r n : ℕ} {q : Fin 2} {f g}
    (ho : off = ![r, 768 * q.val]) (hs : sz = ![n, 768]) (hw : ∀ x, g ((Rect.unit (s := S1536x1536) off sz h).emb x) = w x) :
    pPt (F := F) c r n q fullShare f ⊢ iprop((pPt c r n q fullShare g -∗ run c (k ⟨⟩) Q)
      -∗ run c (.op (.store pM (Rect.unit (s := S1536x1536) off sz h) w Finset.univ hx hm) k) Q) := by
  have hset : (pM.access (Rect.unit (s := S1536x1536) off sz h)).set = band r n q := by rw [View.set_slice_whole, rect2_set ho hs]
  unfold pPt
  iintro H Hk
  iapply (wp_store 𝒱₀ (c : Thread nD τ) none Set.univ (m := pM) (r := Rect.unit (s := S1536x1536) off sz h) (Mk := Finset.univ)
    (by rw [View.setOn_univ, hset])) $$ H
  iintro H
  iapply Hk
  iapply (Entails.of_eq (pointsTo_congr (by
    rw [← hset]; exact pointsTo_written (F := F) (pM.access (Rect.unit (s := S1536x1536) off sz h)) (c : Thread nD τ) rfl fullShare
      ((c : Thread nD τ).loc cc0_scratch0) f g w (funext hw))))
  iexact H
theorem store_o {off sz : Fin 2 → ℕ} {h} {w hx hm} {k} {r n : ℕ} {q : Fin 2} {f g}
    (ho : off = ![r, 768 * q.val]) (hs : sz = ![n, 768]) (hw : ∀ x, g ((Rect.unit (s := S1536x1536) off sz h).emb x) = w x) :
    oPt (F := F) c r n q f ⊢ iprop((oPt c r n q g -∗ run c (k ⟨⟩) Q)
      -∗ run c (.op (.store oM (Rect.unit (s := S1536x1536) off sz h) w Finset.univ hx hm) k) Q) := by
  have hset : (oM.access (Rect.unit (s := S1536x1536) off sz h)).set = band r n q := by rw [View.set_slice_whole, rect2_set ho hs]
  unfold oPt
  iintro H Hk
  iapply (wp_store 𝒱₀ (c : Thread nD τ) none Set.univ (m := oM) (r := Rect.unit (s := S1536x1536) off sz h) (Mk := Finset.univ)
    (by rw [View.setOn_univ, hset])) $$ H
  iintro H
  iapply Hk
  iapply (Entails.of_eq (pointsTo_congr (by
    rw [← hset]; exact pointsTo_written (F := F) (oM.access (Rect.unit (s := S1536x1536) off sz h)) (c : Thread nD τ) rfl fullShare
      ((c : Thread nD τ).loc cc0_stg2_0) f g w (funext hw))))
  iexact H
theorem store_g {off sz : Fin 4 → ℕ} {h} {w hx hm} {k} {p : Fin 3} {q : Fin 2} {r n : ℕ} {f g}
    (ho : off = ![p.val, q.val, r - 512 * p.val, 0]) (hr : 512 * p.val ≤ r) (hs : sz = ![1, 1, n, 768])
    (hw : ∀ x, g ((Rect.unit (s := S3x2x512x768) off sz h).emb x) = w x) :
    gPt (F := F) c p q r n fullShare f ⊢ iprop((gPt c p q r n fullShare g -∗ run c (k ⟨⟩) Q)
      -∗ run c (.op (.store gM (Rect.unit (s := S3x2x512x768) off sz h) w Finset.univ hx hm) k) Q) := by
  have hset : (gM.access (Rect.unit (s := S3x2x512x768) off sz h)).set = agBand p q r n := by rw [View.set_slice_whole, rect4_set ho hr hs]
  unfold gPt
  iintro H Hk
  iapply (wp_store 𝒱₀ (c : Thread nD τ) none Set.univ (m := gM) (r := Rect.unit (s := S3x2x512x768) off sz h) (Mk := Finset.univ)
    (by rw [View.setOn_univ, hset])) $$ H
  iintro H
  iapply Hk
  iapply (Entails.of_eq (pointsTo_congr (by
    rw [← hset]; exact pointsTo_written (F := F) (gM.access (Rect.unit (s := S3x2x512x768) off sz h)) (c : Thread nD τ) rfl fullShare
      ((c : Thread nD τ).loc cc0_scratch2) f g w (funext hw))))
  iexact H

end

end Cert.CubeProof
-- ==== Proof.Talk.lean ====
/-
Transfers and waits

The rules for starting a transfer, for waiting for one to arrive or to have left, and for the barrier, each from what
the device holds for it.
-/
module

public import proofs.«01_k».proof.Proof.Ops

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (P : Dev nD → ℕ → ℕ → F .bf16) (K : Dev nD × KI → ℕ)

/-! ## What a device holds -/

/-- What every device knows throughout: every cell's invariant, that every cell is at its round, and the levels. -/
def recs : sProp 𝕄 :=
  iprop((bigSep Finset.univ fun ck : Dev nD × KI => cellInv ER (Rd P) (K ck) (kcell ck))
    ∗ (bigSep Finset.univ fun ck : Dev nD × KI => reached ER (kcell ck) 0) ∗ levAts L lv)

instance recs_persistent : BI.Persistent (recs P K) := by unfold recs; infer_instance

theorem inv_mem (ck : Dev nD × KI) : (bigSep Finset.univ fun ck : Dev nD × KI => (cellInv ER (Rd P) (K ck) (kcell ck) : sProp 𝕄))
    ⊢ cellInv ER (Rd P) (K ck) (kcell ck) := bigSep_elim (Finset.mem_univ ck)
theorem reached_mem (ck : Dev nD × KI) : (bigSep Finset.univ fun ck : Dev nD × KI => (reached ER (kcell ck) 0 : sProp 𝕄))
    ⊢ reached ER (kcell ck) 0 := bigSep_elim (Finset.mem_univ ck)
theorem recs_inv (ck : Dev nD × KI) : recs P K ⊢ cellInv ER (Rd P) (K ck) (kcell ck) := by
  unfold recs; iintro ⟨H, -⟩
  iapply (inv_mem P K ck); iexact H
theorem recs_reached (ck : Dev nD × KI) : recs P K ⊢ reached ER (kcell ck) 0 := by
  unfold recs; iintro ⟨-, H, -⟩
  iapply (reached_mem ck); iexact H
theorem recs_lev : recs P K ⊢ (levAts L lv : sProp 𝕄) := by
  unfold recs; iintro ⟨-, -, H⟩; iexact H

/-- What device `c` still owes, whatever it has waited for. -/
def ow (c : Dev nD) (O : CellTallies nD τ sig Unit) : sProp 𝕄 := iprop(∃ W, owes (c : Thread nD τ) O W)

/-- The two tokens of transfer `x`, its sending semaphore's position, and the place it lands in. -/
def snd (x : X) (c : Dev nD) : sProp 𝕄 :=
  iprop(dutyTok ER (sndCell x c) 0 0 ∗ dutyTok ER (rcvCell x (dest x c)) 0 0 ∗ atPos ER (sndCell x c) 0 ∅ 0 ∗ landAny x (dest x c))
/-- Transfer `x` started: what its sending wait needs. -/
def pend (x : X) (c : Dev nD) : sProp 𝕄 := iprop(atPos ER (sndCell x c) 0 ∅ 0 ∗ cred (tallyAt (sndCell x c) () (credit x)))
/-- Transfer `x` gone: the sent rows are back. -/
def gone (x : X) (c : Dev nD) : sProp 𝕄 := iprop(atPos ER (sndCell x c) 1 ∅ 0 ∗ sendPay P x c)
/-- What waiting for the incoming transfer `x` needs. -/
def rcv (x : X) (c : Dev nD) : sProp 𝕄 := iprop(atPos ER (rcvCell x c) 0 ∅ 0 ∗ cred (tallyAt (rcvCell x c) () (credit x)))

section
variable (c : Dev nD) {α : Type} {Q : α → sProp (MT nD τ sig Unit (Elt F) ℕ UU ℕ)}

/-- Starting transfer `x`. -/
theorem send_x (x : X) (n : Dev nD) (hn : n = dest x c) (l : List X) {s : Shape}
    {src : Memref sig .tc .vmem s .bf16} {dst : Memref sig (Dev.tc n : Thread nD τ).2.kind .vmem s .bf16} {sS sR : DmaSem sig}
    (hS : sS = xsem false x) (hR : sR = xsem true x) {hsc : dst.view.ref.isScScratch = false}
    {h1 : src.view.WordExact} {h2 : dst.view.WordExact}
    {h3 : DmaTarget.Typed .vmem (.dma sR) (.remote (Dev.tc n : Thread nD τ) dst (.dma sS) hsc)} {k : PUnit → Prog (TpuEff nD τ sig (Elt F) Λ₀ .tc) α}
    {π : PosShare TreeShare} {fs : Buf (Elt F) (src.view.loc (c : Thread nD τ))} {fd : Buf (Elt F) (dst.view.loc (Dev.tc n : Thread nD τ))}
    (hN : dst.view.dmaCredit = credit x)
    (hs : (src.view.loc (c : Thread nD τ) ↦[src.view.set]{π} fs : sProp 𝕄) ⊢ sendPay P x c)
    (hd : (dst.view.loc (Dev.tc n : Thread nD τ) ↦[dst.view.set]{fullShare} (dst.view.write (Elt F) fd (src.view.read (Elt F) fs) Finset.univ) : sProp 𝕄)
      ⊢ recvPay P x n) :
    iprop(recs P K ∗ (src.view.loc (c : Thread nD τ) ↦[src.view.set]{π} fs) ∗ (dst.view.loc (Dev.tc n : Thread nD τ) ↦[dst.view.set]{fullShare} fd)
        ∗ dutyTok ER (sndCell x c) 0 0 ∗ dutyTok ER (rcvCell x n) 0 0 ∗ atPos ER (sndCell x c) 0 ∅ 0 ∗ ow c (debt c (x :: l)))
      ⊢ iprop(((pend x c ∗ ow c (debt c l)) -∗ run c (k ⟨⟩) Q)
          -∗ run c (.op (.enqueueDma src (.remote (Dev.tc n : Thread nD τ) dst (.dma sS) hsc) (.dma sR) h1 h2 h3) k) Q) := by
  subst hn hS hR
  unfold ow pend
  iintro ⟨#Hr, Hs, Hd, Ht1, Ht2, Ha, ⟨%W, HO⟩⟩ Hk
  iapply (Rounds.wp_send_pointsTo 𝒱₀ ER (Rd P) (c : Thread nD τ) none (κ₁ := K (c, some (false, x))) (κ₂ := K (dest x c, some (true, x)))
    (r₁ := 0) (r₂ := 0) (d₁ := 0) (d₂ := 0) (fd := fd) (c' := (dest x c : Thread nD τ))
    (by show (0 : Fin 3) ∈ (Rd P).duties (kcell (c, some (false, x))) 0; rw [duties_x]; exact Finset.mem_singleton_self _)
    (by show (0 : Fin 3) ∈ (Rd P).duties (kcell (dest x c, some (true, x))) 0; rw [duties_x]; exact Finset.mem_singleton_self _)
    () () (credit x) (sem := .dma (xsem true x)) hN (amount_x P c (false, x) 0) (amount_x P (dest x c) (true, x) 0) (debt c l) rfl (W := W)
    (by refine hs.trans (Entails.of_eq (payload_snd P x c 0).symm))
    (by refine hd.trans (Entails.of_eq (payload_rcv P x (dest x c) 0).symm))) $$ [Hs Hd Ht1 Ht2 HO]
  · isplitr; · iapply (recs_inv P K (c, some (false, x))); iexact Hr
    isplitr; · iapply (recs_inv P K (dest x c, some (true, x))); iexact Hr
    isplitl [Hs]; · iexact Hs
    isplitl [Hd]; · iexact Hd
    isplitl [HO]; · iexact HO
    isplitl [Ht1]; · iexact Ht1
    isplitr; · iapply (recs_reached P K (c, some (false, x))); iexact Hr
    isplitl [Ht2]; · iexact Ht2
    iapply (recs_reached P K (dest x c, some (true, x))); iexact Hr
  iintro ⟨Hc, HO⟩
  iapply Hk
  isplitl [Ha Hc]
  · isplitl [Ha] <;> iassumption
  iexists W; iexact HO

/-- Waiting on one of a transfer's semaphores while owing only transfers of later stages. -/
theorem wait_x (bx : Bool × X) (l : List X) (hl : ∀ y ∈ l, lv (kcell (c, some bx)) () < y.1.val + 2) {sm : DmaSem sig} (hsm : sm = xsem bx.1 bx.2)
    {sp sp' : Space} {s s' : Shape} {e e' : EltTy} {κ' : Kind} {src : Memref sig .tc sp' s' e'} {dst : Memref sig κ' sp s e}
    {h1 : src.view.WordExact} {h2 : dst.view.WordExact} {k : PUnit → Prog (TpuEff nD τ sig (Elt F) Λ₀ .tc) α}
    (hN : dst.view.dmaCredit = credit bx.2) :
    iprop(recs P K ∗ (atPos ER (kcell (c, some bx)) 0 ∅ 0 ∗ cred (tallyAt (kcell (c, some bx)) () (credit bx.2))) ∗ ow c (debt c l))
      ⊢ iprop(((atPos ER (kcell (c, some bx)) 1 ∅ 0 ∗ (Rd P).payload (kcell (c, some bx)) 0 0 ∗ ow c (debt c l)) -∗ run c (k ⟨⟩) Q)
          -∗ run c (.op (.waitDma2 sm src dst h1 h2) k) Q) := by
  subst hsm
  unfold ow
  iintro ⟨#Hr, ⟨Ha, Hc⟩, ⟨%W, HO⟩⟩ Hk
  iapply (Rounds.wp_wait_rest_token 𝒱₀ ER (Rd P) (c : Thread nD τ) none (κ := K (c, some bx)) (sm := csem (some bx)) (k' := credit bx.2)
    (fun K' => (wpE_waitDma2_eq 𝒱₀ (c : Thread nD τ) none Set.univ K').trans (by rw [hN]; rfl)) (Set.mem_univ _) () (O := debt c l) (W := W)
    (R := 0) (m := 0) (T := ∅) (by rw [Nat.zero_add]; exact (expect_x P c bx).symm)) $$ [Ha Hc HO]
  · isplitr; · iapply (recs_inv P K (c, some bx)); iexact Hr
    isplitl [Hc]; · iexact Hc
    isplitl [HO]; · iexact HO
    isplitr; · iapply (mayWait_debt c (csem (some bx)) l hl); iapply (recs_lev P K); iexact Hr
    iexact Ha
  iintro ⟨HO, Ha, -, Hp⟩
  iapply Hk
  isplitl [Ha]; · iexact Ha
  isplitl [Hp]
  · iapply (Entails.of_eq (rest_x P c bx)); iexact Hp
  iexists _; iexact HO

/-- Waiting for the incoming transfer `x`: its rows are here. -/
theorem wait_rcv (x : X) (l : List X) (hl : ∀ y ∈ l, x.1.val < y.1.val) {sm : DmaSem sig} (hsm : sm = xsem true x)
    {sp sp' : Space} {s s' : Shape} {e e' : EltTy} {κ' : Kind} {src : Memref sig .tc sp' s' e'} {dst : Memref sig κ' sp s e}
    {h1 : src.view.WordExact} {h2 : dst.view.WordExact} {k : PUnit → Prog (TpuEff nD τ sig (Elt F) Λ₀ .tc) α}
    (hN : dst.view.dmaCredit = credit x) :
    iprop(recs P K ∗ rcv x c ∗ ow c (debt c l))
      ⊢ iprop(((atPos ER (rcvCell x c) 1 ∅ 0 ∗ recvPay P x c ∗ ow c (debt c l)) -∗ run c (k ⟨⟩) Q)
          -∗ run c (.op (.waitDma2 sm src dst h1 h2) k) Q) := by
  rw [← payload_rcv P x c 0]
  exact wait_x P K c (true, x) l (fun y hy => by have := hl y hy; rw [lv_rcv]; omega) hsm hN

/-- Waiting for transfer `x` to have left: the sent rows are back. -/
theorem wait_snd (x : X) {sm : DmaSem sig} (hsm : sm = xsem false x)
    {sp sp' : Space} {s s' : Shape} {e e' : EltTy} {κ' : Kind} {src : Memref sig .tc sp' s' e'} {dst : Memref sig κ' sp s e}
    {h1 : src.view.WordExact} {h2 : dst.view.WordExact} {k : PUnit → Prog (TpuEff nD τ sig (Elt F) Λ₀ .tc) α}
    (hN : dst.view.dmaCredit = credit x) :
    iprop(recs P K ∗ pend x c ∗ ow c (debt c []))
      ⊢ iprop(((gone P x c ∗ ow c (debt c [])) -∗ run c (k ⟨⟩) Q) -∗ run c (.op (.waitDma2 sm src dst h1 h2) k) Q) := by
  unfold pend
  iintro H Hk
  iapply (wait_x P K c (false, x) [] (fun y hy => absurd hy List.not_mem_nil) hsm hN) $$ H
  iintro ⟨Ha, Hp, HO⟩
  iapply Hk
  unfold gone
  isplitl [Ha Hp]
  · isplitl [Ha]; · iexact Ha
    iapply (Entails.of_eq (payload_snd P x c 0)); iexact Hp
  iexact HO

/-- Signalling the barrier of the neighbour along dimension `d`, handing over the places its transfers land in here. -/
theorem signal_bar (d : Fin 3) (n : Dev nD) (hn : n = peer d c) (O O' : CellTallies nD τ sig Unit) (hO : O = O' + tallyAt (barCell (peer d c)) () 1)
    {k : PUnit → Prog (TpuEff nD τ sig (Elt F) Λ₀ .tc) α} :
    iprop(recs P K ∗ dutyTok ER (barCell (peer d c)) 0 d ∗ (bigSep (across d) fun x => landAny x c) ∗ ow c O)
      ⊢ iprop((ow c O' -∗ run c (k ⟨⟩) Q) -∗ run c (.op (.semSignal (n : Thread nD τ) barS 1) k) Q) := by
  subst hn
  unfold ow
  iintro ⟨#Hr, Ht, Hl, ⟨%W, HO⟩⟩ Hk
  iapply (Rounds.wp_signal 𝒱₀ ER (Rd P) (c : Thread nD τ) none (dst := (peer d c : Thread nD τ)) (κ := K (peer d c, none)) (r := 0)
      (d := d) (by show d ∈ (Rd P).duties (barCell (peer d c)) 0; rw [duties_bar]; exact Finset.mem_univ _) (amount_bar P (peer d c) d) () O' hO) $$ [Ht Hl HO]
  · isplitr; · iapply (recs_inv P K (peer d c, none)); iexact Hr
    isplitl [HO]; · iexact HO
    isplitl [Ht]; · iexact Ht
    isplitl [Hl]
    · have h : (bigSep (across d) fun x => landAny (F := F) x c) = (Rd P).payload ((peer d c : Thread nD τ), .reg barS) 0 d :=
        ((payload_bar P (peer d c) d).trans (by unfold barPay; rw [peer_peer])).symm
      iapply (Entails.of_eq h); iexact Hl
    iapply (recs_reached P K (peer d c, none)); iexact Hr
  iintro HO
  iapply Hk; iexists W; iexact HO

/-- The barrier: every place this device's transfers land in is its to write. -/
theorem wait_bar {k : PUnit → Prog (TpuEff nD τ sig (Elt F) Λ₀ .tc) α} :
    iprop(recs P K ∗ atPos ER (barCell c) 0 ∅ 0 ∗ cred (tallyAt (barCell c) () 3) ∗ ow c (O₃ c))
      ⊢ iprop(((atPos ER (barCell c) 1 ∅ 0 ∗ (bigSep Finset.univ fun x : X => landAny (F := F) x (dest x c)) ∗ ow c (O₃ c)) -∗ run c (k ⟨⟩) Q)
          -∗ run c (.op (.semWait barS 3) k) Q) := by
  unfold ow
  iintro ⟨#Hr, Ha, Hc, ⟨%W, HO⟩⟩ Hk
  iapply (Rounds.wp_wait_rest_token 𝒱₀ ER (Rd P) (c : Thread nD τ) none (κ := K (c, none)) (sm := csem none) (k' := 3)
    (wpE_semWait_eq 𝒱₀ (c : Thread nD τ) none Set.univ) (Set.mem_univ _) () (O := O₃ c) (W := W)
    (R := 0) (m := 0) (T := ∅) (by rw [Nat.zero_add]; exact (expect_bar P c).symm)) $$ [Ha Hc HO]
  · isplitr; · iapply (recs_inv P K (c, none)); iexact Hr
    isplitl [Hc]; · iexact Hc
    isplitl [HO]; · iexact HO
    isplitr
    · iapply (mayWait_debt c (csem none) order (fun y _ => by rw [show lv ((c : Thread nD τ), csem none) () = 1 from lv_bar c]; omega)); iapply (recs_lev P K); iexact Hr
    iexact Ha
  iintro ⟨HO, Ha, -, Hp⟩
  iapply Hk
  isplitl [Ha]; · iexact Ha
  isplitl [Hp]
  · iapply (Entails.of_eq (rest_bar P c)); iexact Hp
  iexists _; iexact HO

end

end Cert.CubeProof
-- ==== Proof.Steps.lean ====
/-
The kernel's recurring pieces

Adding a landed block to rows of the partial products, and starting a transfer out of the partial products into a landing
slot or between the finished quarters of two devices: the program text of each, once, at any window.
-/
module

public import proofs.«01_k».proof.Proof.Talk

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## What the kernel computes, element by element -/

theorem unit_at {s : Shape} (off sz : Fin s.rank → ℕ) (h) (x : (Rect.unit off sz h).shape.Idx) (a : Fin s.rank) :
    ((Rect.unit off sz h).emb x a).val = off a + (x a).val := by
  rw [Rect.emb_apply]; show off a + 1 * (x a).val = _; omega

/-- The sum of a block of the partial products and a landed block. -/
theorem pay2_at (v : Vec F S128x768 .bf16) (w : Vec F S1x1x1x128x768 .bf16) (x : S128x768.Idx) :
    k0_pay2 v w x = FloatOps.addf (v x) (w (ix5 (n3 := 128) (n4 := 768) (0 : Fin 1) (0 : Fin 1) (0 : Fin 1) (x 0) (x 1))) := by
  unfold k0_pay2
  show FloatOps.addf (v (Shape.reshapeEquiv _ x)) (w (Shape.reshapeEquiv _ (Shape.reshapeEquiv _ x))) = _
  rw [Shape.reshapeEquiv_self, sq5 (n := 128)]
/-- The same clipped below at zero. -/
theorem pay23_at (v : Vec F S128x768 .bf16) (w : Vec F S1x1x1x128x768 .bf16) (x : S128x768.Idx) :
    k0_pay23 v w x = FloatOps.maximumf (FloatOps.addf (v x) (w (ix5 (n3 := 128) (n4 := 768) (0 : Fin 1) (0 : Fin 1) (0 : Fin 1) (x 0) (x 1))))
      (Scalar.ofBits .bf16 0x0000#16) := by
  unfold k0_pay23
  show FloatOps.maximumf (FloatOps.addf (v x) (w (Shape.reshapeEquiv _ x))) _ = _
  rw [sq5 (n := 128)]; rfl
theorem pay24_at (v : Vec F S128x768 .bf16) (w : Vec F S1x1x1x128x768 .bf16) (x : S1x1x128x768.Idx) :
    k0_pay24 v w x = k0_pay23 v w (ix2 (n0 := 128) (n1 := 768) (x 2) (x 3)) := by
  unfold k0_pay24
  show k0_pay23 v w (Shape.reshapeEquiv _ x) = _
  rw [unsq4 (n := 128)]
theorem pay25_at (v : Vec F S128x768 .bf16) (w : Vec F S1x1x1x128x768 .bf16) (x : S128x768.Idx) :
    k0_pay25 v w x = FloatOps.extf .f32 bitsLt_bf16_f32 (k0_pay23 v w x) := rfl
theorem pay41_at (w : Vec F S1x1x128x768 .bf16) (x : S128x768.Idx) :
    k0_pay41 w x = FloatOps.extf .f32 bitsLt_bf16_f32 (w (ix4 (n2 := 128) (n3 := 768) (0 : Fin 1) (0 : Fin 1) (x 0) (x 1))) := by
  unfold k0_pay41
  show FloatOps.extf .f32 _ (w (Shape.reshapeEquiv _ x)) = _
  rw [sq4 (n := 128)]
theorem pay47_at (w : Vec F S1x1x256x768 .bf16) (x : S256x768.Idx) :
    k0_pay47 w x = FloatOps.extf .f32 bitsLt_bf16_f32 (w (ix4 (n2 := 256) (n3 := 768) (0 : Fin 1) (0 : Fin 1) (x 0) (x 1))) := by
  unfold k0_pay47
  show FloatOps.extf .f32 _ (w (Shape.reshapeEquiv _ x)) = _
  rw [sq4 (n := 256)]

variable (P : Dev nD → ℕ → ℕ → F .bf16) (K : Dev nD × KI → ℕ)

section
variable (c : Dev nD) {α : Type} {Q : α → sProp (MT nD τ sig Unit (Elt F) ℕ UU ℕ)}

/-- A landed block added to 128 rows of the partial products. -/
theorem acc (p : Fin 3) (q : Fin 2) (j : Fin 3) {r m a : ℕ} {V W V' : ℕ → ℕ → F .bf16}
    {o2 : Fin 2 → ℕ} {b2 b2' b2''} {o5 : Fin 5 → ℕ} {b5} {l1 l2 l3} {hx hm}
    {pay : Vec F S128x768 .bf16 → Vec F S1x1x1x128x768 .bf16 → Vec F S128x768 .bf16} (hp : ∀ v w, pay v w = k0_pay2 v w)
    (ho : o2 = ![r, 768 * q.val]) (ho5 : o5 = ![p.val, q.val, j.val, a, 0]) (hma : a + 128 ≤ m)
    (hV : ∀ i k, i < 128 → V' (r + i) (768 * q.val + k) = FloatOps.addf (V (r + i) (768 * q.val + k)) (W (a + i) k))
    {k : PUnit → Prog (TpuEff nD τ sig (Elt F) Λ₀ .tc) α} :
    iprop(pPt c r 128 q fullShare (arr2 V) ∗ rPt c p q j 0 m (arr5 W))
      ⊢ iprop(((pPt c r 128 q fullShare (arr2 V') ∗ rPt c p q j 0 m (arr5 W)) -∗ run c (k ⟨⟩) Q)
        -∗ run c (.op (.load pM (Rect.unit (s := S1536x1536) o2 S128x768.size b2).toLoadRect l1) fun v =>
            .op (.load rM (Rect.unit (s := S3x2x3x256x768) o5 S1x1x1x128x768.size b5).toLoadRect l2) fun w =>
            .op (.load pM (Rect.unit (s := S1536x1536) o2 S128x768.size b2').toLoadRect l3) fun _ =>
            .op (.store pM (Rect.unit (s := S1536x1536) o2 S128x768.size b2'') (pay v w) Finset.univ hx hm) k) Q) := by
  have hw (x : S128x768.Idx) : arr2 V' ((Rect.unit (s := S1536x1536) o2 S128x768.size b2'').emb x)
      = pay (fun x => arr2 V ((Rect.unit (s := S1536x1536) o2 S128x768.size b2).emb x))
          (fun x => arr5 W ((Rect.unit (s := S3x2x3x256x768) o5 S1x1x1x128x768.size b5).emb x)) x := by
    rw [hp, pay2_at]
    unfold arr2 arr5
    subst ho ho5
    simp only [unit_at]
    refine (hV (x 0).val (x 1).val (x 0).isLt).trans ?_
    show _ = FloatOps.addf _ (W (a + (x 0).val) (0 + (x 1).val))
    rw [Nat.zero_add]; rfl
  iintro ⟨Hp, Hr⟩ Hk
  iapply (load_p c ho rfl) $$ Hp
  iintro Hp
  iapply (load_r c ho5 rfl hma) $$ Hr
  iintro Hr
  iapply (load_p c ho rfl) $$ Hp
  iintro Hp
  iapply (store_p c (g := arr2 V') ho rfl hw) $$ Hp
  iintro Hp
  iapply Hk
  isplitl [Hp] <;> iassumption

/-- Starting a transfer of `m` rows of the partial products into a landing slot. -/
theorem send_pr (s : Fin 5) (j p : Fin 3) (q : Fin 2) (n : Dev nD) (hn : n = dest (s, p, q) c) (l : List X) {r m : ℕ} {π : PosShare TreeShare}
    {G : ℕ → ℕ → F .bf16} (hs : sendPay P (s, p, q) c = pPt c r m q π (arr2 G))
    (hr : recvPay P (s, p, q) (dest (s, p, q) c) = rPt (dest (s, p, q) c) p q j 0 m (arr5 fun r' k => G (r + r') (768 * q.val + k)))
    (hl : landAny (F := F) (s, p, q) (dest (s, p, q) c) = iprop(∃ f, rPt (dest (s, p, q) c) p q j 0 m f))
    {o2 : Fin 2 → ℕ} {b2} {u2} {o5 : Fin 5 → ℕ} {b5} {u5} {hq}
    (ho : o2 = ![r, 768 * q.val]) (ho5 : o5 = ![p.val, q.val, j.val, 0, 0])
    {sS sR : DmaSem sig} (hS : sS = xsem false (s, p, q)) (hR : sR = xsem true (s, p, q)) {hsc h1 h2 h3}
    (hN : (((rM.slice (Rect.unit (s := S3x2x3x256x768) o5 (⟨5, ![1, 1, 1, m, 768]⟩ : Shape).size b5) u5).squeeze ⟨2, ![m, 768]⟩ hq).view.dmaCredit) = credit (s, p, q))
    {k : PUnit → Prog (TpuEff nD τ sig (Elt F) Λ₀ .tc) α} :
    iprop(recs P K ∗ pPt c r m q π (arr2 G) ∗ snd (s, p, q) c ∗ ow c (debt c ((s, p, q) :: l)))
      ⊢ iprop(((pend (s, p, q) c ∗ ow c (debt c l)) -∗ run c (k ⟨⟩) Q)
        -∗ run c (.op (.enqueueDma (pM.slice (Rect.unit (s := S1536x1536) o2 (⟨2, ![m, 768]⟩ : Shape).size b2) u2)
            (.remote (Dev.tc n : Thread nD τ) ((rM.slice (Rect.unit (s := S3x2x3x256x768) o5 (⟨5, ![1, 1, 1, m, 768]⟩ : Shape).size b5) u5).squeeze ⟨2, ![m, 768]⟩ hq)
              (.dma sS) hsc) (.dma sR) h1 h2 h3) k) Q) := by
  subst hn
  have hset : (pM.slice (Rect.unit (s := S1536x1536) o2 (⟨2, ![m, 768]⟩ : Shape).size b2) u2).view.set = band r m q := by
    exact (View.set_slice_whole _ _).trans (rect2_set ho rfl)
  have hset' : ((rM.slice (Rect.unit (s := S3x2x3x256x768) o5 (⟨5, ![1, 1, 1, m, 768]⟩ : Shape).size b5) u5).squeeze ⟨2, ![m, 768]⟩ hq).view.set = slot p q j 0 m := by
    exact (View.set_reshape _ _).trans ((View.set_slice_whole _ _).trans (rect5_set ho5 rfl))
  unfold snd
  rw [hl]
  have hd (fd : S3x2x3x256x768.Idx → F .bf16) :
      (((dest (s, p, q) c : Thread nD τ).loc cc0_scratch1) ↦[slot p q j 0 m]{fullShare}
        (((rM.slice (Rect.unit (s := S3x2x3x256x768) o5 (⟨5, ![1, 1, 1, m, 768]⟩ : Shape).size b5) u5).squeeze ⟨2, ![m, 768]⟩ hq).view.write (Elt F) fd
          ((pM.slice (Rect.unit (s := S1536x1536) o2 (⟨2, ![m, 768]⟩ : Shape).size b2) u2).view.read (Elt F) (arr2 G)) Finset.univ) : sProp 𝕄)
        ⊢ recvPay P (s, p, q) (dest (s, p, q) c) := by
    rw [hr]
    refine Entails.of_eq (pointsTo_congr ?_)
    rw [← hset']
    refine pointsTo_written (F := F) ((rM.slice (Rect.unit (s := S3x2x3x256x768) o5 (⟨5, ![1, 1, 1, m, 768]⟩ : Shape).size b5) u5).squeeze ⟨2, ![m, 768]⟩ hq).view
      (dest (s, p, q) c : Thread nD τ) rfl fullShare ((dest (s, p, q) c : Thread nD τ).loc cc0_scratch1) _ _ _ ?_
    funext x
    subst ho ho5
    show G (r + ((Rect.unit (s := S3x2x3x256x768) _ _ b5).emb (Shape.reshapeEquiv _ x) 3).val) (768 * q.val + ((Rect.unit (s := S3x2x3x256x768) _ _ b5).emb (Shape.reshapeEquiv _ x) 4).val)
      = G ((Rect.unit (s := S1536x1536) _ _ b2).emb x 0).val ((Rect.unit (s := S1536x1536) _ _ b2).emb x 1).val
    rw [sq5 (n := m), unit_at, unit_at, unit_at, unit_at]
    show G (r + (0 + (x 0).val)) (768 * q.val + (0 + (x 1).val)) = G (r + (x 0).val) (768 * q.val + (x 1).val)
    rw [Nat.zero_add, Nat.zero_add]
  unfold pPt rPt
  iintro ⟨Hrec, Hs, ⟨Ht1, Ht2, Ha, ⟨%fd, Hd⟩⟩, HO⟩
  iapply (send_x P K c (s, p, q) (dest (s, p, q) c) rfl l hS hR (π := π) (fs := arr2 G) (fd := fd) hN (by rw [hset, hs]; exact Entails.of_eq rfl) (by rw [hset']; exact hd fd))
  isplitl [Hrec]; · iexact Hrec
  rw [hset, hset']
  isplitl [Hs]; · iexact Hs
  isplitl [Hd]; · iexact Hd
  isplitl [Ht1]; · iexact Ht1
  isplitl [Ht2]; · iexact Ht2
  isplitl [Ha]; · iexact Ha
  iexact HO

/-- Starting a transfer of `m` rows of the finished quarters into the same rows of a neighbour's. -/
theorem send_gg (s : Fin 5) (p : Fin 3) (q : Fin 2) (n : Dev nD) (hn : n = dest (s, p, q) c) (l : List X) {r m : ℕ} {π : PosShare TreeShare}
    {G : ℕ → ℕ → F .bf16} (hs : sendPay P (s, p, q) c = gPt c p q r m π (arr4 G))
    (hr : recvPay P (s, p, q) (dest (s, p, q) c) = gPt (dest (s, p, q) c) p q r m fullShare (arr4 G))
    (hl : landAny (F := F) (s, p, q) (dest (s, p, q) c) = iprop(∃ f, gPt (dest (s, p, q) c) p q r m fullShare f))
    {o4 o4' : Fin 4 → ℕ} {b4 b4'} {u4 u4'} {hq hq'} (hb : 512 * p.val ≤ r)
    (ho : o4 = ![p.val, q.val, r - 512 * p.val, 0]) (ho' : o4' = ![p.val, q.val, r - 512 * p.val, 0])
    {sS sR : DmaSem sig} (hS : sS = xsem false (s, p, q)) (hR : sR = xsem true (s, p, q)) {hsc h1 h2 h3}
    (hN : (((gM.slice (Rect.unit (s := S3x2x512x768) o4' (⟨4, ![1, 1, m, 768]⟩ : Shape).size b4') u4').squeeze ⟨2, ![m, 768]⟩ hq').view.dmaCredit) = credit (s, p, q))
    {k : PUnit → Prog (TpuEff nD τ sig (Elt F) Λ₀ .tc) α} :
    iprop(recs P K ∗ gPt c p q r m π (arr4 G) ∗ snd (s, p, q) c ∗ ow c (debt c ((s, p, q) :: l)))
      ⊢ iprop(((pend (s, p, q) c ∗ ow c (debt c l)) -∗ run c (k ⟨⟩) Q)
        -∗ run c (.op (.enqueueDma ((gM.slice (Rect.unit (s := S3x2x512x768) o4 (⟨4, ![1, 1, m, 768]⟩ : Shape).size b4) u4).squeeze ⟨2, ![m, 768]⟩ hq)
            (.remote (Dev.tc n : Thread nD τ) ((gM.slice (Rect.unit (s := S3x2x512x768) o4' (⟨4, ![1, 1, m, 768]⟩ : Shape).size b4') u4').squeeze ⟨2, ![m, 768]⟩ hq')
              (.dma sS) hsc) (.dma sR) h1 h2 h3) k) Q) := by
  subst hn
  have hset : ((gM.slice (Rect.unit (s := S3x2x512x768) o4 (⟨4, ![1, 1, m, 768]⟩ : Shape).size b4) u4).squeeze ⟨2, ![m, 768]⟩ hq).view.set = agBand p q r m := by
    exact (View.set_reshape _ _).trans ((View.set_slice_whole _ _).trans (rect4_set ho hb rfl))
  have hset' : ((gM.slice (Rect.unit (s := S3x2x512x768) o4' (⟨4, ![1, 1, m, 768]⟩ : Shape).size b4') u4').squeeze ⟨2, ![m, 768]⟩ hq').view.set = agBand p q r m := by
    exact (View.set_reshape _ _).trans ((View.set_slice_whole _ _).trans (rect4_set ho' hb rfl))
  unfold snd
  rw [hl]
  have hd (fd : S3x2x512x768.Idx → F .bf16) :
      (((dest (s, p, q) c : Thread nD τ).loc cc0_scratch2) ↦[agBand p q r m]{fullShare}
        (((gM.slice (Rect.unit (s := S3x2x512x768) o4' (⟨4, ![1, 1, m, 768]⟩ : Shape).size b4') u4').squeeze ⟨2, ![m, 768]⟩ hq').view.write (Elt F) fd
          (((gM.slice (Rect.unit (s := S3x2x512x768) o4 (⟨4, ![1, 1, m, 768]⟩ : Shape).size b4) u4).squeeze ⟨2, ![m, 768]⟩ hq).view.read (Elt F) (arr4 G)) Finset.univ) : sProp 𝕄)
        ⊢ recvPay P (s, p, q) (dest (s, p, q) c) := by
    rw [hr]
    refine Entails.of_eq (pointsTo_congr ?_)
    rw [← hset']
    refine pointsTo_written (F := F) ((gM.slice (Rect.unit (s := S3x2x512x768) o4' (⟨4, ![1, 1, m, 768]⟩ : Shape).size b4') u4').squeeze ⟨2, ![m, 768]⟩ hq').view
      (dest (s, p, q) c : Thread nD τ) rfl fullShare ((dest (s, p, q) c : Thread nD τ).loc cc0_scratch2) _ _ _ ?_
    subst ho ho'
    rfl
  unfold gPt
  iintro ⟨Hrec, Hs, ⟨Ht1, Ht2, Ha, ⟨%fd, Hd⟩⟩, HO⟩
  iapply (send_x P K c (s, p, q) (dest (s, p, q) c) rfl l hS hR (π := π) (fs := arr4 G) (fd := fd) hN (by rw [hset, hs]; exact Entails.of_eq rfl) (by rw [hset']; exact hd fd))
  isplitl [Hrec]; · iexact Hrec
  rw [hset, hset']
  isplitl [Hs]; · iexact Hs
  isplitl [Hd]; · iexact Hd
  isplitl [Ht1]; · iexact Ht1
  isplitl [Ht2]; · iexact Ht2
  isplitl [Ha]; · iexact Ha
  iexact HO

end

end Cert.CubeProof
-- ==== Proof.Phases.lean ====
/-
The kernel's stages on one part and half

For part `p` and column half `q`, what a device holds before and after each stage, and the stage's program text run from
the one to the other, at any part, half and device.
-/
module

public import proofs.«01_k».proof.Proof.Steps

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (P : Dev nD → ℕ → ℕ → F .bf16) (K : Dev nD × KI → ℕ)

/-! ## Where the transfers go -/

theorem dest0 (p : Fin 3) (q : Fin 2) (c : Dev nD) : dest (0, p, q) c = peer p c := congrArg (peer · c) (by revert p q; decide)
theorem dest1 (p : Fin 3) (q : Fin 2) (c : Dev nD) : dest (1, p, q) c = peer (p + 1) c := rfl
theorem dest2 (p : Fin 3) (q : Fin 2) (c : Dev nD) : dest (2, p, q) c = peer (p + 2) c := rfl
theorem dest3 (p : Fin 3) (q : Fin 2) (c : Dev nD) : dest (3, p, q) c = peer (p + 1) c := rfl
theorem dest4 (p : Fin 3) (q : Fin 2) (c : Dev nD) : dest (4, p, q) c = peer p c := congrArg (peer · c) (by revert p q; decide)

/-! ## What lands -/

theorem recv0 (p : Fin 3) (q : Fin 2) (c : Dev nD) : recvPay P (0, p, q) c
    = rPt c p q 0 0 256 (arr5 fun r k => P (peer p c) (rk0 p c + r) (768 * q.val + k)) := rfl
theorem recv1 (p : Fin 3) (q : Fin 2) (c : Dev nD) : recvPay P (1, p, q) c
    = rPt c p q 1 0 128 (arr5 fun r k => A1 P p (peer (p + 1) c) (rk1 p c + r) (768 * q.val + k)) := rfl
theorem recv2 (p : Fin 3) (q : Fin 2) (c : Dev nD) : recvPay P (2, p, q) c
    = rPt c p q 2 0 128 (arr5 fun r k => A2 P p (peer (p + 2) c) (rk1 p c + r) (768 * q.val + k)) := rfl

/-! ## Splitting and joining rows -/

theorem pPt_halves (p : Fin 3) (q : Fin 2) (c : Dev nD) (π : PosShare TreeShare) (f : S1536x1536.Idx → F .bf16) :
    pPt c (rk0 p c) 256 q π f ⊣⊢ iprop(pPt c (rs1 p c) 128 q π f ∗ pPt c (rk1 p c) 128 q π f) := by
  have hr := (rows_bounds p c).2
  have h1 : band (rk0 p c) 256 q = band (rs1 p c) 128 q ∪ band (rk1 p c) 128 q := by
    ext i; rw [Finset.mem_union, mem_band, mem_band, mem_band]; omega
  unfold pPt; rw [h1]
  exact pointsTo_union (band_disj (by omega))
theorem gPt_halves (p : Fin 3) (q : Fin 2) (c : Dev nD) (π : PosShare TreeShare) (f : S3x2x512x768.Idx → F .bf16) :
    gPt c p q (rk0 p c) 256 π f ⊣⊢ iprop(gPt c p q (rs1 p c) 128 π f ∗ gPt c p q (rk1 p c) 128 π f) := by
  have hr := (rows_bounds p c).2
  have h1 : agBand p q (rk0 p c) 256 = agBand p q (rs1 p c) 128 ∪ agBand p q (rk1 p c) 128 := by
    ext i; rw [Finset.mem_union, mem_agBand, mem_agBand, mem_agBand]; omega
  unfold gPt; rw [h1]
  exact pointsTo_union (agBand_disj (by omega))
theorem pPt_share (r n : ℕ) (q : Fin 2) (c : Dev nD) (f : S1536x1536.Idx → F .bf16) :
    pPt c r n q fullShare f ⊣⊢ iprop(pPt c r n q fullShare.left f ∗ pPt c r n q fullShare.right f) := by
  unfold pPt; exact pointsTo_share (PosShare.mem_left_op_right fullShare)
theorem gPt_share (p : Fin 3) (q : Fin 2) (r n : ℕ) (c : Dev nD) (f : S3x2x512x768.Idx → F .bf16) :
    gPt c p q r n fullShare f ⊣⊢ iprop(gPt c p q r n fullShare.left f ∗ gPt c p q r n fullShare.right f) := by
  unfold gPt; exact pointsTo_share (PosShare.mem_left_op_right fullShare)

/-! ## What a device holds for a part and half -/

/-- What the result holds in part `p`. -/
def Res (p : Fin 3) (c : Dev nD) (r k : ℕ) : F .f32 := FloatOps.extf .f32 bitsLt_bf16_f32 (AG P p c r k)

section
variable (p : Fin 3) (q : Fin 2) (c : Dev nD)

/-- What each stage needs besides what the one before leaves. -/
def needs1 : sProp 𝕄 := iprop(rcv (0, p, q) c ∗ snd (1, p, q) c)
def needs2 : sProp 𝕄 := iprop(rcv (1, p, q) c ∗ snd (2, p, q) c)
def needs3 : sProp 𝕄 := iprop(rcv (2, p, q) c ∗ snd (3, p, q) c ∗ (∃ f, gPt c p q (rk1 p c) 128 fullShare f) ∗ (∃ f, oPt c (rk1 p c) 128 q f))
def needs4 : sProp 𝕄 := iprop(rcv (3, p, q) c ∗ snd (4, p, q) c ∗ (∃ f, oPt c (rs1 p c) 128 q f))
def needs5 : sProp 𝕄 := iprop(rcv (4, p, q) c ∗ (∃ f, oPt c (rs0 p c) 256 q f))

/-- What each stage leaves that no later one touches. -/
def left1 : sProp 𝕄 := iprop(pend (1, p, q) c ∗ atPos ER (rcvCell (0, p, q) c) 1 ∅ 0 ∗ recvPay P (0, p, q) c)
def left2 : sProp 𝕄 := iprop(pend (2, p, q) c ∗ atPos ER (rcvCell (1, p, q) c) 1 ∅ 0 ∗ recvPay P (1, p, q) c)
def left3 : sProp 𝕄 := iprop(pend (3, p, q) c ∗ atPos ER (rcvCell (2, p, q) c) 1 ∅ 0 ∗ recvPay P (2, p, q) c
  ∗ pPt c (rk1 p c) 128 q fullShare.right (arr2 (A2 P p c)) ∗ oPt c (rk1 p c) 128 q (arr2 (Res P p c)))
def left4 : sProp 𝕄 := iprop(pend (4, p, q) c ∗ atPos ER (rcvCell (3, p, q) c) 1 ∅ 0
  ∗ gPt c p q (rs1 p c) 128 fullShare.left (arr4 (AG P p c)) ∗ oPt c (rs1 p c) 128 q (arr2 (Res P p c)))
def left5 : sProp 𝕄 := iprop(atPos ER (rcvCell (4, p, q) c) 1 ∅ 0 ∗ recvPay P (4, p, q) c ∗ oPt c (rs0 p c) 256 q (arr2 (Res P p c)))
end

section
variable (c : Dev nD) {α : Type} {Q : α → sProp (MT nD τ sig Unit (Elt F) ℕ UU ℕ)} (p : Fin 3) (q : Fin 2) (l : List X)

/-- The first stage's transfer: the half of the rows the neighbour keeps. -/
theorem stage0 {n : Dev nD} (hn : n = dest (0, p, q) c := by decide +revert)
    {o2 : Fin 2 → ℕ} {b2} {u2} {o5 : Fin 5 → ℕ} {b5} {u5} {hq} (ho : o2 = ![rs0 p c, 768 * q.val] := by decide +revert) (ho5 : o5 = ![p.val, q.val, 0, 0, 0] := by decide +revert)
    {sS sR : DmaSem sig} (hS : sS = xsem false (0, p, q) := by rfl) (hR : sR = xsem true (0, p, q) := by rfl) {hsc h1 h2 h3}
    (hN : (((rM.slice (Rect.unit (s := S3x2x3x256x768) o5 S1x1x1x256x768.size b5) u5).squeeze S256x768 hq).view.dmaCredit) = credit (0, p, q) := by rfl)
    {k : PUnit → Prog (TpuEff nD τ sig (Elt F) Λ₀ .tc) α} {R : sProp (MT nD τ sig Unit (Elt F) ℕ UU ℕ)} :
    iprop(recs P K ∗ (pPt c (rs0 p c) 256 q fullShare (arr2 (P c)) ∗ snd (0, p, q) c ∗ R) ∗ ow c (debt c ((0, p, q) :: l)))
      ⊢ iprop(((pend (0, p, q) c ∗ R) ∗ ow c (debt c l) -∗ run c (k ⟨⟩) Q)
        -∗ run c (.op (.enqueueDma (pM.slice (Rect.unit (s := S1536x1536) o2 S256x768.size b2) u2)
            (.remote (Dev.tc n : Thread nD τ) ((rM.slice (Rect.unit (s := S3x2x3x256x768) o5 S1x1x1x256x768.size b5) u5).squeeze S256x768 hq)
              (.dma sS) hsc) (.dma sR) h1 h2 h3) k) Q) := by
  iintro ⟨Hrec, ⟨Hp, Hs, HR⟩, HO⟩ Hk
  iapply (send_pr P K c 0 0 p q n hn l (r := rs0 p c) (m := 256) (π := fullShare) (G := P c) rfl
    (by rw [dest0]; show rPt (peer p c) p q 0 0 256 (arr5 fun r k => P (peer p (peer p c)) (rk0 p (peer p c) + r) (768 * q.val + k)) = _
        rw [peer_peer, rk0_peer]) rfl ho ho5 hS hR hN) $$ [Hrec Hp Hs HO]
  · isplitl [Hrec]; · iexact Hrec
    isplitl [Hp]; · iexact Hp
    isplitl [Hs] <;> iassumption
  iintro ⟨Hd, HO⟩
  iapply Hk
  isplitl [Hd HR]
  · isplitl [Hd] <;> iassumption
  iexact HO

/-- The second: the landed half added, a quarter sent on. -/
theorem stage1 {n : Dev nD} (hn : n = dest (1, p, q) c := by decide +revert) (hl : ∀ y ∈ (1, p, q) :: l, 0 < y.1.val := by decide)
    {sm : DmaSem sig} (hsm : sm = xsem true (0, p, q) := by rfl) {wsrc : Memref sig .tc .vmem S256x768 .bf16} {wdst : Memref sig .tc .vmem S256x768 .bf16} {w1 w2}
    (hwN : wdst.view.dmaCredit = credit (0, p, q) := by rfl)
    {o1 : Fin 2 → ℕ} {b1 b1' b1''} {l1 l1' x1 m1} {o2 : Fin 5 → ℕ} {b2} {l2} (ho1 : o1 = ![rs1 p c, 768 * q.val] := by decide +revert)
    (ho2 : o2 = ![p.val, q.val, 0, rs1 p c - rk0 p c, 0] := by decide +revert)
    {pay : Vec F S128x768 .bf16 → Vec F S1x1x1x128x768 .bf16 → Vec F S128x768 .bf16} (hp : ∀ v w, pay v w = k0_pay2 v w := by intros; rfl)
    {o3 : Fin 2 → ℕ} {b3} {u3} {o4 : Fin 5 → ℕ} {b4} {u4} {hq} (ho3 : o3 = ![rs1 p c, 768 * q.val] := by decide +revert) (ho4 : o4 = ![p.val, q.val, 1, 0, 0] := by decide +revert)
    {sS sR : DmaSem sig} (hS : sS = xsem false (1, p, q) := by rfl) (hR : sR = xsem true (1, p, q) := by rfl) {hsc h1 h2 h3}
    (hN : (((rM.slice (Rect.unit (s := S3x2x3x256x768) o4 S1x1x1x128x768.size b4) u4).squeeze S128x768 hq).view.dmaCredit) = credit (1, p, q) := by rfl)
    {o5 : Fin 2 → ℕ} {b5 b5' b5''} {l5 l5' x5 m5} {o6 : Fin 5 → ℕ} {b6} {l6} (ho5 : o5 = ![rk1 p c, 768 * q.val] := by decide +revert)
    (ho6 : o6 = ![p.val, q.val, 0, rk1 p c - rk0 p c, 0] := by decide +revert)
    {pay' : Vec F S128x768 .bf16 → Vec F S1x1x1x128x768 .bf16 → Vec F S128x768 .bf16} (hp' : ∀ v w, pay' v w = k0_pay2 v w := by intros; rfl)
    {k : PUnit → Prog (TpuEff nD τ sig (Elt F) Λ₀ .tc) α} {R D : sProp (MT nD τ sig Unit (Elt F) ℕ UU ℕ)} :
    iprop(recs P K ∗ (pPt c (rk0 p c) 256 q fullShare (arr2 (P c)) ∗ (needs1 p q c ∗ R) ∗ D) ∗ ow c (debt c ((1, p, q) :: l)))
      ⊢ iprop(((pPt c (rk1 p c) 128 q fullShare (arr2 (A1 P p c)) ∗ R ∗ (D ∗ left1 P p q c)) ∗ ow c (debt c l) -∗ run c (k ⟨⟩) Q)
        -∗ run c (.op (.waitDma2 sm wsrc wdst w1 w2) fun _ =>
            .op (.load pM (Rect.unit (s := S1536x1536) o1 S128x768.size b1).toLoadRect l1) fun v =>
            .op (.load rM (Rect.unit (s := S3x2x3x256x768) o2 S1x1x1x128x768.size b2).toLoadRect l2) fun w =>
            .op (.load pM (Rect.unit (s := S1536x1536) o1 S128x768.size b1').toLoadRect l1') fun _ =>
            .op (.store pM (Rect.unit (s := S1536x1536) o1 S128x768.size b1'') (pay v w) Finset.univ x1 m1) fun _ =>
            .op (.enqueueDma (pM.slice (Rect.unit (s := S1536x1536) o3 S128x768.size b3) u3)
              (.remote (Dev.tc n : Thread nD τ) ((rM.slice (Rect.unit (s := S3x2x3x256x768) o4 S1x1x1x128x768.size b4) u4).squeeze S128x768 hq)
                (.dma sS) hsc) (.dma sR) h1 h2 h3) fun _ =>
            .op (.load pM (Rect.unit (s := S1536x1536) o5 S128x768.size b5).toLoadRect l5) fun v =>
            .op (.load rM (Rect.unit (s := S3x2x3x256x768) o6 S1x1x1x128x768.size b6).toLoadRect l6) fun w =>
            .op (.load pM (Rect.unit (s := S1536x1536) o5 S128x768.size b5').toLoadRect l5') fun _ =>
            .op (.store pM (Rect.unit (s := S1536x1536) o5 S128x768.size b5'') (pay' v w) Finset.univ x5 m5) k) Q) := by
  have hb := (rows_bounds p c).2
  unfold needs1 left1
  iintro ⟨#Hrec, ⟨Hp, ⟨⟨Hv, Hs⟩, HR⟩, HD⟩, HO⟩ Hk
  iapply (wait_rcv P K c (0, p, q) ((1, p, q) :: l) hl hsm hwN) $$ [Hv HO]
  · isplitr; · iexact Hrec
    isplitl [Hv]; · iexact Hv
    iexact HO
  iintro ⟨Hv, Hr, HO⟩
  ihave Hr := (Entails.of_eq (recv0 P p q c)) $$ Hr
  ihave H := (pPt_halves p q c fullShare (arr2 (P c))).1 $$ Hp
  icases H with ⟨Hp1, Hp2⟩
  iapply (acc c p q 0 (V := P c) (V' := A1 P p c) (W := fun r k => P (peer p c) (rk0 p c + r) (768 * q.val + k)) (m := 256) hp ho1 ho2 (by omega)
    (fun i k hi => by unfold A1; rw [show rk0 p c + (rs1 p c - rk0 p c + i) = rs1 p c + i by omega])) $$ [Hp1 Hr]
  · isplitl [Hp1] <;> iassumption
  iintro ⟨Hp1, Hr⟩
  iapply (send_pr P K c 1 1 p q n hn l (r := rs1 p c) (m := 128) (π := fullShare) (G := A1 P p c) rfl
    (by rw [dest1]; show rPt (peer (p + 1) c) p q 1 0 128 (arr5 fun r k => A1 P p (peer (p + 1) (peer (p + 1) c)) (rk1 p (peer (p + 1) c) + r) (768 * q.val + k)) = _
        rw [peer_peer, rk1_peer]) rfl ho3 ho4 hS hR hN) $$ [Hp1 Hs HO]
  · isplitr; · iexact Hrec
    isplitl [Hp1]; · iexact Hp1
    isplitl [Hs] <;> iassumption
  iintro ⟨Hd, HO⟩
  iapply (acc c p q 0 (V := P c) (V' := A1 P p c) (W := fun r k => P (peer p c) (rk0 p c + r) (768 * q.val + k)) (m := 256) hp' ho5 ho6 (by omega)
    (fun i k hi => by unfold A1; rw [show rk0 p c + (rk1 p c - rk0 p c + i) = rk1 p c + i by omega])) $$ [Hp2 Hr]
  · isplitl [Hp2] <;> iassumption
  iintro ⟨Hp2, Hr⟩
  iapply Hk
  isplitr [HO]
  · isplitl [Hp2]; · iexact Hp2
    isplitl [HR]; · iexact HR
    isplitl [HD]; · iexact HD
    isplitl [Hd]; · iexact Hd
    isplitl [Hv]; · iexact Hv
    iapply (Entails.of_eq (recv0 P p q c).symm); iexact Hr
  iexact HO

/-- The third: the landed quarter added, and the sum sent across the part's last dimension. -/
theorem stage2 {n : Dev nD} (hn : n = dest (2, p, q) c := by decide +revert) (hl : ∀ y ∈ (2, p, q) :: l, 1 < y.1.val := by decide)
    {sm : DmaSem sig} (hsm : sm = xsem true (1, p, q) := by rfl) {wsrc : Memref sig .tc .vmem S128x768 .bf16} {wdst : Memref sig .tc .vmem S128x768 .bf16} {w1 w2}
    (hwN : wdst.view.dmaCredit = credit (1, p, q) := by rfl)
    {o1 : Fin 2 → ℕ} {b1 b1' b1''} {l1 l1' x1 m1} {o2 : Fin 5 → ℕ} {b2} {l2} (ho1 : o1 = ![rk1 p c, 768 * q.val] := by decide +revert) (ho2 : o2 = ![p.val, q.val, 1, 0, 0] := by decide +revert)
    {pay : Vec F S128x768 .bf16 → Vec F S1x1x1x128x768 .bf16 → Vec F S128x768 .bf16} (hp : ∀ v w, pay v w = k0_pay2 v w := by intros; rfl)
    {o3 : Fin 2 → ℕ} {b3} {u3} {o4 : Fin 5 → ℕ} {b4} {u4} {hq} (ho3 : o3 = ![rk1 p c, 768 * q.val] := by decide +revert) (ho4 : o4 = ![p.val, q.val, 2, 0, 0] := by decide +revert)
    {sS sR : DmaSem sig} (hS : sS = xsem false (2, p, q) := by rfl) (hR : sR = xsem true (2, p, q) := by rfl) {hsc h1 h2 h3}
    (hN : (((rM.slice (Rect.unit (s := S3x2x3x256x768) o4 S1x1x1x128x768.size b4) u4).squeeze S128x768 hq).view.dmaCredit) = credit (2, p, q) := by rfl)
    {k : PUnit → Prog (TpuEff nD τ sig (Elt F) Λ₀ .tc) α} {R D : sProp (MT nD τ sig Unit (Elt F) ℕ UU ℕ)} :
    iprop(recs P K ∗ (pPt c (rk1 p c) 128 q fullShare (arr2 (A1 P p c)) ∗ (needs2 p q c ∗ R) ∗ D) ∗ ow c (debt c ((2, p, q) :: l)))
      ⊢ iprop(((pPt c (rk1 p c) 128 q fullShare.right (arr2 (A2 P p c)) ∗ R ∗ (D ∗ left2 P p q c)) ∗ ow c (debt c l) -∗ run c (k ⟨⟩) Q)
        -∗ run c (.op (.waitDma2 sm wsrc wdst w1 w2) fun _ =>
            .op (.load pM (Rect.unit (s := S1536x1536) o1 S128x768.size b1).toLoadRect l1) fun v =>
            .op (.load rM (Rect.unit (s := S3x2x3x256x768) o2 S1x1x1x128x768.size b2).toLoadRect l2) fun w =>
            .op (.load pM (Rect.unit (s := S1536x1536) o1 S128x768.size b1').toLoadRect l1') fun _ =>
            .op (.store pM (Rect.unit (s := S1536x1536) o1 S128x768.size b1'') (pay v w) Finset.univ x1 m1) fun _ =>
            .op (.enqueueDma (pM.slice (Rect.unit (s := S1536x1536) o3 S128x768.size b3) u3)
              (.remote (Dev.tc n : Thread nD τ) ((rM.slice (Rect.unit (s := S3x2x3x256x768) o4 S1x1x1x128x768.size b4) u4).squeeze S128x768 hq)
                (.dma sS) hsc) (.dma sR) h1 h2 h3) k) Q) := by
  unfold needs2 left2
  iintro ⟨#Hrec, ⟨Hp, ⟨⟨Hv, Hs⟩, HR⟩, HD⟩, HO⟩ Hk
  iapply (wait_rcv P K c (1, p, q) ((2, p, q) :: l) hl hsm hwN) $$ [Hv HO]
  · isplitr; · iexact Hrec
    isplitl [Hv]; · iexact Hv
    iexact HO
  iintro ⟨Hv, Hr, HO⟩
  ihave Hr := (Entails.of_eq (recv1 P p q c)) $$ Hr
  iapply (acc c p q 1 (V := A1 P p c) (V' := A2 P p c) (W := fun r k => A1 P p (peer (p + 1) c) (rk1 p c + r) (768 * q.val + k)) (m := 128) hp ho1 ho2 (by omega)
    (fun i k hi => by unfold A2; rw [Nat.zero_add])) $$ [Hp Hr]
  · isplitl [Hp] <;> iassumption
  iintro ⟨Hp, Hr⟩
  ihave H := (pPt_share (rk1 p c) 128 q c (arr2 (A2 P p c))).1 $$ Hp
  icases H with ⟨Hp1, Hp2⟩
  iapply (send_pr P K c 2 2 p q n hn l (r := rk1 p c) (m := 128) (π := fullShare.left) (G := A2 P p c) rfl
    (by rw [dest2]; show rPt (peer (p + 2) c) p q 2 0 128 (arr5 fun r k => A2 P p (peer (p + 2) (peer (p + 2) c)) (rk1 p (peer (p + 2) c) + r) (768 * q.val + k)) = _
        rw [peer_peer, rk1_peer2]) rfl ho3 ho4 hS hR hN) $$ [Hp1 Hs HO]
  · isplitr; · iexact Hrec
    isplitl [Hp1]; · iexact Hp1
    isplitl [Hs] <;> iassumption
  iintro ⟨Hd, HO⟩
  iapply Hk
  isplitr [HO]
  · isplitl [Hp2]; · iexact Hp2
    isplitl [HR]; · iexact HR
    isplitl [HD]; · iexact HD
    isplitl [Hd]; · iexact Hd
    isplitl [Hv]; · iexact Hv
    iapply (Entails.of_eq (recv1 P p q c).symm); iexact Hr
  iexact HO

/-- The fourth: the last landed quarter added and the sum clipped, into the result and the finished quarters, and the finished
    quarter sent back across the second dimension. -/
theorem stage3 {n : Dev nD} (hn : n = dest (3, p, q) c := by decide +revert) (hl : ∀ y ∈ (3, p, q) :: l, 2 < y.1.val := by decide)
    {sm : DmaSem sig} (hsm : sm = xsem true (2, p, q) := by rfl) {wsrc : Memref sig .tc .vmem S128x768 .bf16} {wdst : Memref sig .tc .vmem S128x768 .bf16} {w1 w2}
    (hwN : wdst.view.dmaCredit = credit (2, p, q) := by rfl)
    {o1 : Fin 2 → ℕ} {b1 b1o b1o'} {l1 lo xo mo} {o2 : Fin 5 → ℕ} {b2} {l2} (ho1 : o1 = ![rk1 p c, 768 * q.val] := by decide +revert) (ho2 : o2 = ![p.val, q.val, 2, 0, 0] := by decide +revert)
    {og : Fin 4 → ℕ} {bg bg'} {lg xg mg} (hog : og = ![p.val, q.val, rk1 p c - 512 * p.val, 0] := by decide +revert)
    {pay : Vec F S128x768 .bf16 → Vec F S1x1x1x128x768 .bf16 → Vec F S1x1x128x768 .bf16} (hp : ∀ v w, pay v w = k0_pay24 v w := by intros; rfl)
    {pay' : Vec F S128x768 .bf16 → Vec F S1x1x1x128x768 .bf16 → Vec F S128x768 .f32} (hp' : ∀ v w, pay' v w = k0_pay25 v w := by intros; rfl)
    {o3 o4 : Fin 4 → ℕ} {b3 b4} {u3 u4} {hq3 hq} (ho3 : o3 = ![p.val, q.val, rk1 p c - 512 * p.val, 0] := by decide +revert) (ho4 : o4 = ![p.val, q.val, rk1 p c - 512 * p.val, 0] := by decide +revert)
    {sS sR : DmaSem sig} (hS : sS = xsem false (3, p, q) := by rfl) (hR : sR = xsem true (3, p, q) := by rfl) {hsc h1 h2 h3}
    (hN : (((gM.slice (Rect.unit (s := S3x2x512x768) o4 S1x1x128x768.size b4) u4).squeeze S128x768 hq).view.dmaCredit) = credit (3, p, q) := by rfl)
    {k : PUnit → Prog (TpuEff nD τ sig (Elt F) Λ₀ .tc) α} {R D : sProp (MT nD τ sig Unit (Elt F) ℕ UU ℕ)} :
    iprop(recs P K ∗ (pPt c (rk1 p c) 128 q fullShare.right (arr2 (A2 P p c)) ∗ (needs3 p q c ∗ R) ∗ D) ∗ ow c (debt c ((3, p, q) :: l)))
      ⊢ iprop(((gPt c p q (rk1 p c) 128 fullShare.right (arr4 (AG P p c)) ∗ R ∗ (D ∗ left3 P p q c)) ∗ ow c (debt c l) -∗ run c (k ⟨⟩) Q)
        -∗ run c (.op (.waitDma2 sm wsrc wdst w1 w2) fun _ =>
            .op (.load pM (Rect.unit (s := S1536x1536) o1 S128x768.size b1).toLoadRect l1) fun v =>
            .op (.load rM (Rect.unit (s := S3x2x3x256x768) o2 S1x1x1x128x768.size b2).toLoadRect l2) fun w =>
            .op (.load gM (Rect.unit (s := S3x2x512x768) og S1x1x128x768.size bg).toLoadRect lg) fun _ =>
            .op (.store gM (Rect.unit (s := S3x2x512x768) og S1x1x128x768.size bg') (pay v w) Finset.univ xg mg) fun _ =>
            .op (.load oM (Rect.unit (s := S1536x1536) o1 S128x768.size b1o).toLoadRect lo) fun _ =>
            .op (.store oM (Rect.unit (s := S1536x1536) o1 S128x768.size b1o') (pay' v w) Finset.univ xo mo) fun _ =>
            .op (.enqueueDma ((gM.slice (Rect.unit (s := S3x2x512x768) o3 S1x1x128x768.size b3) u3).squeeze S128x768 hq3)
              (.remote (Dev.tc n : Thread nD τ) ((gM.slice (Rect.unit (s := S3x2x512x768) o4 S1x1x128x768.size b4) u4).squeeze S128x768 hq)
                (.dma sS) hsc) (.dma sR) h1 h2 h3) k) Q) := by
  have hb := rows_bounds p c
  have hb' : 512 * p.val ≤ rk1 p c := by omega
  have hv (x : S128x768.Idx) : k0_pay23 (fun x => arr2 (A2 P p c) ((Rect.unit (s := S1536x1536) o1 S128x768.size b1).emb x))
      (fun x => arr5 (fun r k => A2 P p (peer (p + 2) c) (rk1 p c + r) (768 * q.val + k)) ((Rect.unit (s := S3x2x3x256x768) o2 S1x1x1x128x768.size b2).emb x)) x
      = AG P p c (rk1 p c + (x 0).val) (768 * q.val + (x 1).val) := by
    have hx : (x 0).val < 128 := (x 0).isLt
    rw [AG_keep P p c _ _ (by omega) (by omega), pay23_at]
    unfold arr2 arr5 A3
    subst ho1 ho2
    simp only [unit_at]
    show FloatOps.maximumf (FloatOps.addf (A2 P p c (rk1 p c + (x 0).val) (768 * q.val + (x 1).val))
      (A2 P p (peer (p + 2) c) (rk1 p c + (0 + (x 0).val)) (768 * q.val + (0 + (x 1).val)))) _ = _
    rw [Nat.zero_add, Nat.zero_add]
  have hw (x : S1x1x128x768.Idx) : arr4 (AG P p c) ((Rect.unit (s := S3x2x512x768) og S1x1x128x768.size bg').emb x)
      = pay (fun x => arr2 (A2 P p c) ((Rect.unit (s := S1536x1536) o1 S128x768.size b1).emb x))
      (fun x => arr5 (fun r k => A2 P p (peer (p + 2) c) (rk1 p c + r) (768 * q.val + k)) ((Rect.unit (s := S3x2x3x256x768) o2 S1x1x1x128x768.size b2).emb x)) x := by
    rw [hp, pay24_at, hv]
    unfold arr4
    subst hog
    simp only [unit_at]
    have h0 : (x 0).val = 0 := by have : (x 0).val < 1 := (x 0).isLt; omega
    have h1 : (x 1).val = 0 := by have : (x 1).val < 1 := (x 1).isLt; omega
    show AG P p c (512 * (p.val + (x 0).val) + (rk1 p c - 512 * p.val + (x 2).val)) (768 * (q.val + (x 1).val) + (0 + (x 3).val))
      = AG P p c (rk1 p c + (x 2).val) (768 * q.val + (x 3).val)
    rw [h0, h1]; congr 1 <;> omega
  have hw' (x : S128x768.Idx) : arr2 (Res P p c) ((Rect.unit (s := S1536x1536) o1 S128x768.size b1o').emb x)
      = pay' (fun x => arr2 (A2 P p c) ((Rect.unit (s := S1536x1536) o1 S128x768.size b1).emb x))
      (fun x => arr5 (fun r k => A2 P p (peer (p + 2) c) (rk1 p c + r) (768 * q.val + k)) ((Rect.unit (s := S3x2x3x256x768) o2 S1x1x1x128x768.size b2).emb x)) x := by
    rw [hp', pay25_at, hv]
    unfold arr2 Res
    subst ho1
    simp only [unit_at]
    rfl
  unfold needs3 left3
  iintro ⟨#Hrec, ⟨Hp, ⟨⟨Hv, Hs, ⟨%fg, Hg⟩, ⟨%fo, Ho⟩⟩, HR⟩, HD⟩, HO⟩ Hk
  iapply (wait_rcv P K c (2, p, q) ((3, p, q) :: l) hl hsm hwN) $$ [Hv HO]
  · isplitr; · iexact Hrec
    isplitl [Hv]; · iexact Hv
    iexact HO
  iintro ⟨Hv, Hr, HO⟩
  ihave Hr := (Entails.of_eq (recv2 P p q c)) $$ Hr
  iapply (load_p c ho1 rfl) $$ Hp
  iintro Hp
  iapply (load_r c (j := 2) ho2 rfl (le_refl (0 + 128))) $$ Hr
  iintro Hr
  iapply (load_g c hog hb' rfl) $$ Hg
  iintro Hg
  iapply (store_g c (g := arr4 (AG P p c)) hog hb' rfl hw) $$ Hg
  iintro Hg
  iapply (load_o c ho1 rfl) $$ Ho
  iintro Ho
  iapply (store_o c (g := arr2 (Res P p c)) ho1 rfl hw') $$ Ho
  iintro Ho
  ihave H := (gPt_share p q (rk1 p c) 128 c (arr4 (AG P p c))).1 $$ Hg
  icases H with ⟨Hg1, Hg2⟩
  iapply (send_gg P K c 3 p q n hn l (r := rk1 p c) (m := 128) (π := fullShare.left) (G := AG P p c) rfl
    (by rw [dest3]; show gPt (peer (p + 1) c) p q (rs1 p (peer (p + 1) c)) 128 fullShare (arr4 (AG P p (peer (p + 1) c))) = _
        rw [rs1_peer, AG_peer1]) (by rw [dest3, ← rs1_peer p c]; rfl) hb' ho3 ho4 hS hR hN) $$ [Hg1 Hs HO]
  · isplitr; · iexact Hrec
    isplitl [Hg1]; · iexact Hg1
    isplitl [Hs] <;> iassumption
  iintro ⟨Hd, HO⟩
  iapply Hk
  isplitr [HO]
  · isplitl [Hg2]; · iexact Hg2
    isplitl [HR]; · iexact HR
    isplitl [HD]; · iexact HD
    isplitl [Hd]; · iexact Hd
    isplitl [Hv]; · iexact Hv
    isplitl [Hr]; · iapply (Entails.of_eq (recv2 P p q c).symm); iexact Hr
    isplitl [Hp] <;> iassumption
  iexact HO

/-- The fifth: a finished quarter landed; it and the one finished here are sent back across the first dimension, and the landed
    one goes into the result. -/
theorem stage4 {n : Dev nD} (hn : n = dest (4, p, q) c := by decide +revert) (hl : ∀ y ∈ (4, p, q) :: l, 3 < y.1.val := by decide)
    {sm : DmaSem sig} (hsm : sm = xsem true (3, p, q) := by rfl) {wsrc : Memref sig .tc .vmem S128x768 .bf16} {wdst : Memref sig .tc .vmem S128x768 .bf16} {w1 w2}
    (hwN : wdst.view.dmaCredit = credit (3, p, q) := by rfl)
    {o3 o4 : Fin 4 → ℕ} {b3 b4} {u3 u4} {hq3 hq} (ho3 : o3 = ![p.val, q.val, rk0 p c - 512 * p.val, 0] := by decide +revert) (ho4 : o4 = ![p.val, q.val, rk0 p c - 512 * p.val, 0] := by decide +revert)
    {sS sR : DmaSem sig} (hS : sS = xsem false (4, p, q) := by rfl) (hR : sR = xsem true (4, p, q) := by rfl) {hsc h1 h2 h3}
    (hN : (((gM.slice (Rect.unit (s := S3x2x512x768) o4 S1x1x256x768.size b4) u4).squeeze S256x768 hq).view.dmaCredit) = credit (4, p, q) := by rfl)
    {o1 : Fin 2 → ℕ} {b1 b1'} {lo xo mo} (ho1 : o1 = ![rs1 p c, 768 * q.val] := by decide +revert)
    {og : Fin 4 → ℕ} {bg} {lg} (hog : og = ![p.val, q.val, rs1 p c - 512 * p.val, 0] := by decide +revert)
    {pay : Vec F S1x1x128x768 .bf16 → Vec F S128x768 .f32} (hp : ∀ w, pay w = k0_pay41 w := by intros; rfl)
    {k : PUnit → Prog (TpuEff nD τ sig (Elt F) Λ₀ .tc) α} {R D : sProp (MT nD τ sig Unit (Elt F) ℕ UU ℕ)} :
    iprop(recs P K ∗ (gPt c p q (rk1 p c) 128 fullShare.right (arr4 (AG P p c)) ∗ (needs4 p q c ∗ R) ∗ D) ∗ ow c (debt c ((4, p, q) :: l)))
      ⊢ iprop(((R ∗ (D ∗ left4 P p q c)) ∗ ow c (debt c l) -∗ run c (k ⟨⟩) Q)
        -∗ run c (.op (.waitDma2 sm wsrc wdst w1 w2) fun _ =>
            .op (.enqueueDma ((gM.slice (Rect.unit (s := S3x2x512x768) o3 S1x1x256x768.size b3) u3).squeeze S256x768 hq3)
              (.remote (Dev.tc n : Thread nD τ) ((gM.slice (Rect.unit (s := S3x2x512x768) o4 S1x1x256x768.size b4) u4).squeeze S256x768 hq)
                (.dma sS) hsc) (.dma sR) h1 h2 h3) fun _ =>
            .op (.load gM (Rect.unit (s := S3x2x512x768) og S1x1x128x768.size bg).toLoadRect lg) fun w =>
            .op (.load oM (Rect.unit (s := S1536x1536) o1 S128x768.size b1).toLoadRect lo) fun _ =>
            .op (.store oM (Rect.unit (s := S1536x1536) o1 S128x768.size b1') (pay w) Finset.univ xo mo) k) Q) := by
  have hb := rows_bounds p c
  have hb' : 512 * p.val ≤ rs1 p c := by omega
  have hw (x : S128x768.Idx) : arr2 (Res P p c) ((Rect.unit (s := S1536x1536) o1 S128x768.size b1').emb x)
      = pay (fun x => arr4 (AG P p c) ((Rect.unit (s := S3x2x512x768) og S1x1x128x768.size bg).emb x)) x := by
    rw [hp, pay41_at]
    unfold arr2 arr4 Res
    subst ho1 hog
    simp only [unit_at]
    show FloatOps.extf .f32 _ (AG P p c (rs1 p c + (x 0).val) (768 * q.val + (x 1).val))
      = FloatOps.extf .f32 _ (AG P p c (512 * (p.val + 0) + (rs1 p c - 512 * p.val + (x 0).val)) (768 * (q.val + 0) + (0 + (x 1).val)))
    rw [show 512 * (p.val + 0) + (rs1 p c - 512 * p.val + (x 0).val) = rs1 p c + (x 0).val by omega, Nat.zero_add, Nat.add_zero]
  unfold needs4 left4
  iintro ⟨#Hrec, ⟨Hg, ⟨⟨Hv, Hs, ⟨%fo, Ho⟩⟩, HR⟩, HD⟩, HO⟩ Hk
  iapply (wait_rcv P K c (3, p, q) ((4, p, q) :: l) hl hsm hwN) $$ [Hv HO]
  · isplitr; · iexact Hrec
    isplitl [Hv]; · iexact Hv
    iexact HO
  iintro ⟨Hv, Hr, HO⟩
  ihave Hr := (Entails.of_eq (show recvPay P (3, p, q) c = gPt c p q (rs1 p c) 128 fullShare (arr4 (AG P p c)) from rfl)) $$ Hr
  ihave H := (gPt_share p q (rs1 p c) 128 c (arr4 (AG P p c))).1 $$ Hr
  icases H with ⟨Hr1, Hr2⟩
  ihave Hg := (gPt_halves p q c fullShare.right (arr4 (AG P p c))).2 $$ [Hr2 Hg]
  · isplitl [Hr2] <;> iassumption
  iapply (send_gg P K c 4 p q n hn l (r := rk0 p c) (m := 256) (π := fullShare.right) (G := AG P p c) rfl
    (by rw [dest4]; show gPt (peer p c) p q (rs0 p (peer p c)) 256 fullShare (arr4 (AG P p (peer p c))) = _
        rw [rs0_peer, AG_peer0]) (by rw [dest4, ← rs0_peer p c]; rfl) (by omega) ho3 ho4 hS hR hN) $$ [Hg Hs HO]
  · isplitr; · iexact Hrec
    isplitl [Hg]; · iexact Hg
    isplitl [Hs] <;> iassumption
  iintro ⟨Hd, HO⟩
  iapply (load_g c hog hb' rfl) $$ Hr1
  iintro Hr1
  iapply (load_o c ho1 rfl) $$ Ho
  iintro Ho
  iapply (store_o c (g := arr2 (Res P p c)) ho1 rfl hw) $$ Ho
  iintro Ho
  iapply Hk
  isplitr [HO]
  · isplitl [HR]; · iexact HR
    isplitl [HD]; · iexact HD
    isplitl [Hd]; · iexact Hd
    isplitl [Hv]; · iexact Hv
    isplitl [Hr1] <;> iassumption
  iexact HO

/-- The last: the other half of the part landed; it goes into the result. -/
theorem stage5 (hl : ∀ y ∈ l, 4 < y.1.val := by decide)
    {sm : DmaSem sig} (hsm : sm = xsem true (4, p, q) := by rfl) {wsrc : Memref sig .tc .vmem S256x768 .bf16} {wdst : Memref sig .tc .vmem S256x768 .bf16} {w1 w2}
    (hwN : wdst.view.dmaCredit = credit (4, p, q) := by rfl)
    {o1 : Fin 2 → ℕ} {b1 b1'} {lo xo mo} (ho1 : o1 = ![rs0 p c, 768 * q.val] := by decide +revert)
    {og : Fin 4 → ℕ} {bg} {lg} (hog : og = ![p.val, q.val, rs0 p c - 512 * p.val, 0] := by decide +revert)
    {pay : Vec F S1x1x256x768 .bf16 → Vec F S256x768 .f32} (hp : ∀ w, pay w = k0_pay47 w := by intros; rfl)
    {k : PUnit → Prog (TpuEff nD τ sig (Elt F) Λ₀ .tc) α} {D : sProp (MT nD τ sig Unit (Elt F) ℕ UU ℕ)} :
    iprop(recs P K ∗ (needs5 p q c ∗ D) ∗ ow c (debt c l))
      ⊢ iprop(((D ∗ left5 P p q c) ∗ ow c (debt c l) -∗ run c (k ⟨⟩) Q)
        -∗ run c (.op (.waitDma2 sm wsrc wdst w1 w2) fun _ =>
            .op (.load gM (Rect.unit (s := S3x2x512x768) og S1x1x256x768.size bg).toLoadRect lg) fun w =>
            .op (.load oM (Rect.unit (s := S1536x1536) o1 S256x768.size b1).toLoadRect lo) fun _ =>
            .op (.store oM (Rect.unit (s := S1536x1536) o1 S256x768.size b1') (pay w) Finset.univ xo mo) k) Q) := by
  have hb := rows_bounds p c
  have hb' : 512 * p.val ≤ rs0 p c := by omega
  have hw (x : S256x768.Idx) : arr2 (Res P p c) ((Rect.unit (s := S1536x1536) o1 S256x768.size b1').emb x)
      = pay (fun x => arr4 (AG P p c) ((Rect.unit (s := S3x2x512x768) og S1x1x256x768.size bg).emb x)) x := by
    rw [hp, pay47_at]
    unfold arr2 arr4 Res
    subst ho1 hog
    simp only [unit_at]
    show FloatOps.extf .f32 _ (AG P p c (rs0 p c + (x 0).val) (768 * q.val + (x 1).val))
      = FloatOps.extf .f32 _ (AG P p c (512 * (p.val + 0) + (rs0 p c - 512 * p.val + (x 0).val)) (768 * (q.val + 0) + (0 + (x 1).val)))
    rw [show 512 * (p.val + 0) + (rs0 p c - 512 * p.val + (x 0).val) = rs0 p c + (x 0).val by omega, Nat.zero_add, Nat.add_zero]
  unfold needs5 left5
  iintro ⟨#Hrec, ⟨⟨Hv, ⟨%fo, Ho⟩⟩, HD⟩, HO⟩ Hk
  iapply (wait_rcv P K c (4, p, q) l hl hsm hwN) $$ [Hv HO]
  · isplitr; · iexact Hrec
    isplitl [Hv]; · iexact Hv
    iexact HO
  iintro ⟨Hv, Hr, HO⟩
  ihave Hr := (Entails.of_eq (show recvPay P (4, p, q) c = gPt c p q (rs0 p c) 256 fullShare (arr4 (AG P p c)) from rfl)) $$ Hr
  iapply (load_g c hog hb' rfl) $$ Hr
  iintro Hr
  iapply (load_o c ho1 rfl) $$ Ho
  iintro Ho
  iapply (store_o c (g := arr2 (Res P p c)) ho1 rfl hw) $$ Ho
  iintro Ho
  iapply Hk
  isplitr [HO]
  · isplitl [HD]; · iexact HD
    isplitl [Hv]; · iexact Hv
    isplitl [Hr]
    · iapply (Entails.of_eq (show gPt c p q (rs0 p c) 256 fullShare (arr4 (AG P p c)) = recvPay P (4, p, q) c from rfl)); iexact Hr
    iexact Ho
  iexact HO

end

end Cert.CubeProof
-- ==== Proof.Lanes.lean ====
/-
Buffers and lanes

A lane is a part and a column half. The four buffers a device works in fall into lanes, a lane's share of each into the
rows its stages use: here they are taken apart before the first stage and put together after the last.
-/
module

public import proofs.«01_k».proof.Proof.Phases

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (P : Dev nD → ℕ → ℕ → F .bf16) (K : Dev nD × KI → ℕ)

/-! ## Over all transfers, over all lanes -/

abbrev LN : Type := Fin 3 × Fin 2

/-- Something for every transfer is, lane by lane, that for each of its five stages. -/
theorem bigSep_lanes (Φ : X → sProp (MT nD τ sig Unit (Elt F) ℕ UU ℕ)) : bigSep Finset.univ Φ
    = bigSep Finset.univ fun l : LN => iprop(Φ (0, l.1, l.2) ∗ Φ (1, l.1, l.2) ∗ Φ (2, l.1, l.2) ∗ Φ (3, l.1, l.2) ∗ Φ (4, l.1, l.2)) := by
  rw [bigSep_univ_equiv (Equiv.prodComm LN (Fin 5)) Φ, bigSep_univ_prod]
  exact bigSep_congr fun l _ => bigSep_univ_eq_bigSepL [0, 1, 2, 3, 4] (by decide) (by decide) _

/-- The six lanes one by one. -/
theorem bigSep_six (Φ : LN → sProp (MT nD τ sig Unit (Elt F) ℕ UU ℕ)) : bigSep Finset.univ Φ
    = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-- Something for every transfer is that for each in the kernel's order. -/
theorem bigSep_order (Φ : X → sProp (MT nD τ sig Unit (Elt F) ℕ UU ℕ)) : bigSep Finset.univ Φ = bigSepL order Φ :=
  bigSep_univ_eq_bigSepL order (by decide) (by decide) Φ

/-- Something for every transfer is that for those across each of the three dimensions. -/
theorem bigSep_across (Φ : X → sProp (MT nD τ sig Unit (Elt F) ℕ UU ℕ)) : bigSep Finset.univ Φ
    = iprop(bigSep (across 0) Φ ∗ bigSep (across 1) Φ ∗ bigSep (across 2) Φ) := by
  rw [bigSep_fiberwise Finset.univ xdim Φ, xdim_image]
  exact bigSep_univ_eq_bigSepL [0, 1, 2] (by decide) (by decide) _

section
variable {ℓ : Loc nD τ sig} (W : LN → Finset (Idx ℓ)) (hd : ∀ l l', l ≠ l' → Disjoint (W l) (W l')) (hu : ∀ i, ∃ l, i ∈ W l)

theorem cover_eq (hu : ∀ i, ∃ l, i ∈ W l) : (Finset.univ : Finset LN).biUnion W = Finset.univ :=
  Finset.eq_univ_of_forall fun i => by obtain ⟨l, hl⟩ := hu i; exact Finset.mem_biUnion.mpr ⟨l, Finset.mem_univ _, hl⟩
include hd hu
/-- A buffer cut into lanes. -/
theorem whole_lanes (f : Buf (Elt F) ℓ) : (ℓ ↦{fullShare} f : sProp 𝕄) = bigSep Finset.univ fun l => ℓ ↦[W l]{fullShare} f := by
  rw [← pointsTo_biUnion Finset.univ W fun l _ l' _ h => hd l l' h, cover_eq W hu]
/-- A buffer cut into lanes, each holding something. -/
theorem whole_lanes_any : (iprop(∃ f, ℓ ↦{fullShare} f) : sProp 𝕄) ⊢ bigSep Finset.univ fun l => iprop(∃ f, ℓ ↦[W l]{fullShare} f) := by
  have h' (l : LN) (f : Buf (Elt F) ℓ) : (ℓ ↦[W l]{fullShare} f : sProp 𝕄) ⊢ iprop(∃ f, ℓ ↦[W l]{fullShare} f) := by
    iintro H; iexists f; iexact H
  have h (f : Buf (Elt F) ℓ) : (ℓ ↦{fullShare} f : sProp 𝕄) ⊢ bigSep Finset.univ fun l => iprop(∃ f, ℓ ↦[W l]{fullShare} f) :=
    (Entails.of_eq (whole_lanes W hd hu f)).trans (bigSep_mono fun l _ => h' l f)
  iintro ⟨%f, H⟩
  iapply (h f); iexact H
/-- Lanes holding anything make a buffer holding something. -/
theorem lanes_whole (f₀ : Buf (Elt F) ℓ) : (bigSep Finset.univ fun l => iprop(∃ f, ℓ ↦[W l]{fullShare} f) : sProp 𝕄) ⊢ iprop(∃ f, ℓ ↦{fullShare} f) := by
  haveI : Nonempty (Buf (Elt F) ℓ) := ⟨f₀⟩
  refine (BI.bigSep_exists_pi Finset.univ (fun (l : LN) (f : Buf (Elt F) ℓ) => (ℓ ↦[W l]{fullShare} f : sProp 𝕄))).trans ?_
  iintro ⟨%fs, H⟩
  ihave H := (pointsTo_biUnion_join Finset.univ W fs f₀ fun l _ l' _ h => hd l l' h) $$ H
  icases H with ⟨%g, -, H⟩
  rw [cover_eq W hu]
  iexists g; iexact H
end

/-! ## The cuts -/

def pW (l : LN) : Finset S1536x1536.Idx := band (512 * l.1.val) 512 l.2
def rW (l : LN) : Finset S3x2x3x256x768.Idx := Finset.univ.filter fun i => (i 0).val = l.1.val ∧ (i 1).val = l.2.val
def gW (l : LN) : Finset S3x2x512x768.Idx := agBand l.1 l.2 (512 * l.1.val) 512

theorem ln_ne {l l' : LN} (h : l ≠ l') : l.1.val ≠ l'.1.val ∨ l.2.val ≠ l'.2.val := by
  by_contra hc; push Not at hc; exact h (Prod.ext (Fin.ext hc.1) (Fin.ext hc.2))
theorem pW_disj (l l' : LN) (h : l ≠ l') : Disjoint (pW l) (pW l') :=
  Finset.disjoint_left.mpr fun i h1 h2 => by have h1 := mem_band.mp h1; have h2 := mem_band.mp h2; have := ln_ne h; omega
theorem pW_cover (i : S1536x1536.Idx) : ∃ l, i ∈ pW l := by
  have h0 : (i 0).val < 1536 := (i 0).isLt
  have h1 : (i 1).val < 1536 := (i 1).isLt
  refine ⟨(⟨(i 0).val / 512, by omega⟩, ⟨(i 1).val / 768, by omega⟩), mem_band.mpr ?_⟩
  show (512 * ((i 0).val / 512) ≤ _ ∧ _ < 512 * ((i 0).val / 512) + 512) ∧ 768 * ((i 1).val / 768) ≤ _ ∧ _ < 768 * ((i 1).val / 768) + 768
  omega
theorem rW_disj (l l' : LN) (h : l ≠ l') : Disjoint (rW l) (rW l') :=
  Finset.disjoint_left.mpr fun i h1 h2 => by
    have h1 := (Finset.mem_filter.mp h1).2; have h2 := (Finset.mem_filter.mp h2).2; have := ln_ne h; omega
theorem rW_cover (i : S3x2x3x256x768.Idx) : ∃ l, i ∈ rW l := ⟨(i 0, i 1), Finset.mem_filter.mpr ⟨Finset.mem_univ _, rfl, rfl⟩⟩
theorem gW_disj (l l' : LN) (h : l ≠ l') : Disjoint (gW l) (gW l') :=
  Finset.disjoint_left.mpr fun i h1 h2 => by have h1 := mem_agBand.mp h1; have h2 := mem_agBand.mp h2; have := ln_ne h; omega
theorem gW_cover (i : S3x2x512x768.Idx) : ∃ l, i ∈ gW l := by
  have h0 : (i 2).val < 512 := (i 2).isLt
  refine ⟨(i 0, i 1), mem_agBand.mpr ?_⟩
  show (i 0).val = (i 0).val ∧ (i 1).val = (i 1).val ∧ 512 * (i 0).val ≤ 512 * (i 0).val + (i 2).val ∧ 512 * (i 0).val + (i 2).val < 512 * (i 0).val + 512
  omega

section
variable (p : Fin 3) (q : Fin 2) (c : Dev nD)

theorem band_part : pW (p, q) = band (rs0 p c) 256 q ∪ band (rk0 p c) 256 q := by
  have h := (rows_bounds p c).1
  ext i
  show i ∈ band (512 * p.val) 512 q ↔ _
  rw [Finset.mem_union, mem_band, mem_band, mem_band]; omega
theorem band_part_disj : Disjoint (band (rs0 p c) 256 q) (band (rk0 p c) 256 q) := band_disj (by have := (rows_bounds p c).1; omega)
theorem band_half : band (rk0 p c) 256 q = band (rs1 p c) 128 q ∪ band (rk1 p c) 128 q := by
  have hr := (rows_bounds p c).2
  ext i; rw [Finset.mem_union, mem_band, mem_band, mem_band]; omega
theorem band_half_disj : Disjoint (band (rs1 p c) 128 q) (band (rk1 p c) 128 q) := band_disj (by have := (rows_bounds p c).2; omega)
theorem agBand_part : gW (p, q) = agBand p q (rs0 p c) 256 ∪ agBand p q (rk0 p c) 256 := by
  have h := (rows_bounds p c).1
  ext i
  show i ∈ agBand p q (512 * p.val) 512 ↔ _
  rw [Finset.mem_union, mem_agBand, mem_agBand, mem_agBand]; omega
theorem agBand_part_disj : Disjoint (agBand p q (rs0 p c) 256) (agBand p q (rk0 p c) 256) := agBand_disj (by have := (rows_bounds p c).1; omega)

theorem slots_part : rW (p, q) = slot p q 0 0 256 ∪ ((slot p q 1 0 128 ∪ slot p q 1 128 128) ∪ (slot p q 2 0 128 ∪ slot p q 2 128 128)) := by
  ext i
  have h2 : (i 2).val < 3 := (i 2).isLt
  have h3 : (i 3).val < 256 := (i 3).isLt
  simp only [rW, Finset.mem_union, mem_slot, Finset.mem_filter, Finset.mem_univ, true_and]
  show _ ↔ (_ ∧ _ ∧ _ = 0 ∧ _) ∨ ((_ ∧ _ ∧ _ = 1 ∧ _) ∨ (_ ∧ _ ∧ _ = 1 ∧ _)) ∨ ((_ ∧ _ ∧ _ = 2 ∧ _) ∨ (_ ∧ _ ∧ _ = 2 ∧ _))
  omega
theorem slot_ne {j j' : Fin 3} (h : j ≠ j') {r n r' n' : ℕ} : Disjoint (slot p q j r n) (slot p q j' r' n') :=
  Finset.disjoint_left.mpr fun i h1 h2 => by
    rw [mem_slot] at h1 h2; exact h (Fin.ext (by omega))

theorem slots_disj12 : Disjoint (slot p q 1 0 128 ∪ slot p q 1 128 128) (slot p q 2 0 128 ∪ slot p q 2 128 128) :=
  Finset.disjoint_union_left.mpr ⟨Finset.disjoint_union_right.mpr ⟨slot_ne p q (by decide), slot_ne p q (by decide)⟩,
    Finset.disjoint_union_right.mpr ⟨slot_ne p q (by decide), slot_ne p q (by decide)⟩⟩
theorem slots_disj0 : Disjoint (slot p q 0 0 256) ((slot p q 1 0 128 ∪ slot p q 1 128 128) ∪ (slot p q 2 0 128 ∪ slot p q 2 128 128)) :=
  Finset.disjoint_union_right.mpr ⟨Finset.disjoint_union_right.mpr ⟨slot_ne p q (by decide), slot_ne p q (by decide)⟩,
    Finset.disjoint_union_right.mpr ⟨slot_ne p q (by decide), slot_ne p q (by decide)⟩⟩

/-! ## A lane's rows, before and after -/

/-- The partial products of a lane, whole. -/
theorem p_lane (f : S1536x1536.Idx → F .bf16) : ((((c : Thread nD τ).loc cc0_scratch0) ↦[pW (p, q)]{fullShare} f : sProp 𝕄))
    ⊣⊢ iprop(pPt c (rs0 p c) 256 q fullShare f ∗ pPt c (rk0 p c) 256 q fullShare f) := by
  unfold pPt; rw [band_part p q c]; exact pointsTo_union (band_part_disj p q c)
/-- The result's rows of a lane, whole. -/
theorem o_lane (f : S1536x1536.Idx → F .f32) : ((((c : Thread nD τ).loc cc0_stg2_0) ↦[pW (p, q)]{fullShare} f : sProp 𝕄))
    ⊣⊢ iprop(oPt c (rs0 p c) 256 q f ∗ oPt c (rs1 p c) 128 q f ∗ oPt c (rk1 p c) 128 q f) := by
  unfold oPt; rw [band_part p q c]
  refine (pointsTo_union (band_part_disj p q c)).trans ?_
  rw [band_half p q c]
  exact ⟨sep_mono_right (pointsTo_union (band_half_disj p q c)).1, sep_mono_right (pointsTo_union (band_half_disj p q c)).2⟩
/-- The finished quarters of a lane, whole. -/
theorem g_lane (f : S3x2x512x768.Idx → F .bf16) : ((((c : Thread nD τ).loc cc0_scratch2) ↦[gW (p, q)]{fullShare} f : sProp 𝕄))
    ⊣⊢ iprop(gPt c p q (rs0 p c) 256 fullShare f ∗ gPt c p q (rs1 p c) 128 fullShare f ∗ gPt c p q (rk1 p c) 128 fullShare f) := by
  have h := gPt_halves p q c fullShare f
  unfold gPt at h ⊢; rw [agBand_part p q c]
  exact (pointsTo_union (agBand_part_disj p q c)).trans ⟨sep_mono_right h.1, sep_mono_right h.2⟩

/-- The landing rows of a lane that no transfer uses. -/
def spare : sProp 𝕄 := iprop((∃ f, rPt c p q 1 128 128 f) ∗ (∃ f, rPt c p q 2 128 128 f))

theorem r_open (f : S3x2x3x256x768.Idx → F .bf16) : ((((c : Thread nD τ).loc cc0_scratch1) ↦[rW (p, q)]{fullShare} f : sProp 𝕄))
    ⊢ iprop((landAny (0, p, q) c ∗ landAny (1, p, q) c ∗ landAny (2, p, q) c) ∗ spare p q c) := by
  rw [slots_part p q]
  unfold spare landAny rPt
  iintro H
  ihave H := (pointsTo_union (slots_disj0 p q)).1 $$ H
  icases H with ⟨H0, H⟩
  ihave H := (pointsTo_union (slots_disj12 p q)).1 $$ H
  icases H with ⟨H1, H2⟩
  ihave H1 := (pointsTo_union (slot_disj (Or.inl (show 0 + 128 ≤ 128 from le_refl _)))).1 $$ H1
  icases H1 with ⟨H1, H1'⟩
  ihave H2 := (pointsTo_union (slot_disj (Or.inl (show 0 + 128 ≤ 128 from le_refl _)))).1 $$ H2
  icases H2 with ⟨H2, H2'⟩
  isplitl [H0 H1 H2]
  · isplitl [H0]; · iexists f; iexact H0
    isplitl [H1]; · iexists f; iexact H1
    iexists f; iexact H2
  isplitl [H1']; · iexists f; iexact H1'
  iexists f; iexact H2'

theorem r_close : iprop((landAny (0, p, q) c ∗ landAny (1, p, q) c ∗ landAny (2, p, q) c) ∗ spare p q c)
    ⊢ (iprop(∃ f, ((c : Thread nD τ).loc cc0_scratch1) ↦[rW (p, q)]{fullShare} f) : sProp 𝕄) := by
  rw [slots_part p q]
  unfold spare landAny rPt
  iintro ⟨⟨⟨%f0, H0⟩, ⟨%f1, H1⟩, ⟨%f2, H2⟩⟩, ⟨%f3, H3⟩, ⟨%f4, H4⟩⟩
  ihave H1 := (pointsTo_join (ℓ := (c : Thread nD τ).loc cc0_scratch1) (slot_disj (Or.inl (show 0 + 128 ≤ 128 from le_refl _)))) $$ [H1 H3]
  · isplitl [H1] <;> iassumption
  ihave H2 := (pointsTo_join (ℓ := (c : Thread nD τ).loc cc0_scratch1) (slot_disj (Or.inl (show 0 + 128 ≤ 128 from le_refl _)))) $$ [H2 H4]
  · isplitl [H2] <;> iassumption
  ihave H := (pointsTo_join (ℓ := (c : Thread nD τ).loc cc0_scratch1) (slots_disj12 p q)) $$ [H1 H2]
  · isplitl [H1] <;> iassumption
  ihave H := (pointsTo_join (ℓ := (c : Thread nD τ).loc cc0_scratch1) (slots_disj0 p q)) $$ [H0 H]
  · isplitl [H0] <;> iassumption
  iexists _; iexact H

end

end Cert.CubeProof
-- ==== Proof.Ends.lean ====
/-
Before the first stage and after the last

From a device's buffers and its share of the launch's tokens to what each lane's stages need, and from what they leave to
the buffers whole, the result computed and every semaphore at zero.
-/
module

public import proofs.«01_k».proof.Proof.Lanes

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (P : Dev nD → ℕ → ℕ → F .bf16) (K : Dev nD × KI → ℕ)

/-! ## Before -/

/-- The tokens and positions of transfer `x` on device `c`, and its credit for the incoming one. -/
def ghostX (x : X) (c : Dev nD) : sProp 𝕄 :=
  iprop(dutyTok ER (sndCell x c) 0 0 ∗ dutyTok ER (rcvCell x (dest x c)) 0 0 ∗ atPos ER (sndCell x c) 0 ∅ 0 ∗ rcv x c)

theorem ghostX_open (x : X) (c : Dev nD) : iprop(ghostX x c ∗ landAny (F := F) x (dest x c)) ⊢ iprop(snd x c ∗ rcv x c) := by
  unfold ghostX snd
  iintro ⟨⟨H1, H2, H3, H4⟩, H5⟩
  isplitr [H4]
  · isplitl [H1]; · iexact H1
    isplitl [H2]; · iexact H2
    isplitl [H3] <;> iassumption
  iexact H4

section
variable (p : Fin 3) (q : Fin 2) (c : Dev nD)

/-- What a lane holds before its first stage. -/
def laneIn : sProp 𝕄 :=
  iprop(pPt c (rs0 p c) 256 q fullShare (arr2 (P c)) ∗ snd (0, p, q) c
    ∗ (pPt c (rk0 p c) 256 q fullShare (arr2 (P c)) ∗ (needs1 p q c ∗ (needs2 p q c ∗ (needs3 p q c ∗ (needs4 p q c ∗ needs5 p q c))))))

/-- The finished quarter a device makes itself, holding anything yet. -/
def ownG : sProp 𝕄 := iprop(∃ f, gPt c p q (rk1 p c) 128 fullShare f)

theorem lane_in :
    iprop((((c : Thread nD τ).loc cc0_scratch0) ↦[pW (p, q)]{fullShare} arr2 (P c)) ∗ (∃ f, ((c : Thread nD τ).loc cc0_stg2_0) ↦[pW (p, q)]{fullShare} f)
      ∗ ownG (F := F) p q c
      ∗ ((ghostX (0, p, q) c ∗ landAny (F := F) (0, p, q) (dest (0, p, q) c)) ∗ (ghostX (1, p, q) c ∗ landAny (F := F) (1, p, q) (dest (1, p, q) c))
        ∗ (ghostX (2, p, q) c ∗ landAny (F := F) (2, p, q) (dest (2, p, q) c)) ∗ (ghostX (3, p, q) c ∗ landAny (F := F) (3, p, q) (dest (3, p, q) c))
        ∗ (ghostX (4, p, q) c ∗ landAny (F := F) (4, p, q) (dest (4, p, q) c))))
      ⊢ laneIn P p q c := by
  iintro ⟨Hp, ⟨%fo, Ho⟩, Hg, G0, G1, G2, G3, G4⟩
  ihave Hp := (p_lane p q c (arr2 (P c))).1 $$ Hp
  icases Hp with ⟨Hp1, Hp2⟩
  ihave Ho := (o_lane p q c fo).1 $$ Ho
  icases Ho with ⟨Ho1, Ho2, Ho3⟩
  ihave G0 := (ghostX_open (0, p, q) c) $$ G0
  ihave G1 := (ghostX_open (1, p, q) c) $$ G1
  ihave G2 := (ghostX_open (2, p, q) c) $$ G2
  ihave G3 := (ghostX_open (3, p, q) c) $$ G3
  ihave G4 := (ghostX_open (4, p, q) c) $$ G4
  icases G0 with ⟨S0, R0⟩
  icases G1 with ⟨S1, R1⟩
  icases G2 with ⟨S2, R2⟩
  icases G3 with ⟨S3, R3⟩
  icases G4 with ⟨S4, R4⟩
  unfold laneIn needs1 needs2 needs3 needs4 needs5 ownG
  isplitl [Hp1]; · iexact Hp1
  isplitl [S0]; · iexact S0
  isplitl [Hp2]; · iexact Hp2
  isplitl [R0 S1]
  · isplitl [R0] <;> iassumption
  isplitl [R1 S2]
  · isplitl [R1] <;> iassumption
  isplitl [R2 S3 Hg Ho3]
  · isplitl [R2]; · iexact R2
    isplitl [S3]; · iexact S3
    isplitl [Hg]; · iexact Hg
    iexists fo; iexact Ho3
  isplitl [R3 S4 Ho2]
  · isplitl [R3]; · iexact R3
    isplitl [S4]; · iexact S4
    iexists fo; iexact Ho2
  isplitl [R4]; · iexact R4
  iexists fo; iexact Ho1

/-- The landing rows and finished quarters of a lane, as the places of the five incoming transfers and the rest. -/
theorem places_lane :
    iprop((∃ f, ((c : Thread nD τ).loc cc0_scratch1) ↦[rW (p, q)]{fullShare} f) ∗ (∃ f, ((c : Thread nD τ).loc cc0_scratch2) ↦[gW (p, q)]{fullShare} f))
      ⊢ (iprop((landAny (0, p, q) c ∗ landAny (1, p, q) c ∗ landAny (2, p, q) c ∗ landAny (3, p, q) c ∗ landAny (4, p, q) c)
        ∗ spare p q c ∗ ownG p q c) : sProp 𝕄) := by
  iintro ⟨⟨%fr, Hr⟩, ⟨%fg, Hg⟩⟩
  ihave Hr := (r_open p q c fr) $$ Hr
  icases Hr with ⟨⟨L0, L1, L2⟩, Hs⟩
  ihave Hg := (g_lane p q c fg).1 $$ Hg
  icases Hg with ⟨G4, G3, G⟩
  unfold ownG
  isplitr [Hs G]
  · isplitl [L0]; · iexact L0
    isplitl [L1]; · iexact L1
    isplitl [L2]; · iexact L2
    isplitl [G3]
    · iapply (Entails.of_eq (show iprop(∃ f, gPt (F := F) c p q (rs1 p c) 128 fullShare f) = landAny (3, p, q) c from rfl)); iexists fg; iexact G3
    iapply (Entails.of_eq (show iprop(∃ f, gPt (F := F) c p q (rs0 p c) 256 fullShare f) = landAny (4, p, q) c from rfl)); iexists fg; iexact G4
  isplitl [Hs]; · iexact Hs
  iexists fg; iexact G
end

/-- What the barrier hands out, and what stays. -/
theorem places (c : Dev nD) :
    iprop((∃ f, ((c : Thread nD τ).loc cc0_scratch1) ↦{fullShare} f) ∗ (∃ f, ((c : Thread nD τ).loc cc0_scratch2) ↦{fullShare} f))
      ⊢ (iprop((bigSep (across 0) (fun x => landAny x c) ∗ bigSep (across 1) (fun x => landAny x c) ∗ bigSep (across 2) fun x => landAny x c)
        ∗ (bigSep Finset.univ fun l : LN => spare l.1 l.2 c) ∗ bigSep Finset.univ fun l : LN => ownG l.1 l.2 c) : sProp 𝕄) := by
  have h : iprop((bigSep Finset.univ fun l : LN => iprop(∃ f, ((c : Thread nD τ).loc cc0_scratch1) ↦[rW l]{fullShare} f))
      ∗ bigSep Finset.univ fun l : LN => iprop(∃ f, ((c : Thread nD τ).loc cc0_scratch2) ↦[gW l]{fullShare} f))
      ⊢ (iprop((bigSep Finset.univ fun l : LN => iprop(landAny (0, l.1, l.2) c ∗ landAny (1, l.1, l.2) c ∗ landAny (2, l.1, l.2) c ∗ landAny (3, l.1, l.2) c ∗ landAny (4, l.1, l.2) c))
        ∗ (bigSep Finset.univ fun l : LN => spare l.1 l.2 c) ∗ bigSep Finset.univ fun l : LN => ownG l.1 l.2 c) : sProp 𝕄) := by
    rw [← bigSep_sep', ← bigSep_sep', ← bigSep_sep']
    exact bigSep_mono fun l _ => places_lane (F := F) l.1 l.2 c
  rw [← bigSep_across, bigSep_lanes]
  exact (BIClass.sep_mono (whole_lanes_any (F := F) (ℓ := (c : Thread nD τ).loc cc0_scratch1) rW rW_disj rW_cover)
    (whole_lanes_any (F := F) (ℓ := (c : Thread nD τ).loc cc0_scratch2) gW gW_disj gW_cover)).trans h

/-- Everything each lane needs. -/
theorem lanes_in (c : Dev nD) :
    iprop((((c : Thread nD τ).loc cc0_scratch0) ↦{fullShare} arr2 (P c)) ∗ (∃ f, ((c : Thread nD τ).loc cc0_stg2_0) ↦{fullShare} f)
      ∗ (bigSep Finset.univ fun l : LN => ownG (F := F) l.1 l.2 c)
      ∗ (bigSep Finset.univ fun x : X => ghostX x c) ∗ bigSep Finset.univ fun x : X => landAny (F := F) x (dest x c))
      ⊢ bigSep Finset.univ fun l : LN => laneIn P l.1 l.2 c := by
  have h : iprop((bigSep Finset.univ fun l : LN => (((c : Thread nD τ).loc cc0_scratch0) ↦[pW l]{fullShare} arr2 (P c) : sProp 𝕄))
      ∗ (bigSep Finset.univ fun l : LN => iprop(∃ f, ((c : Thread nD τ).loc cc0_stg2_0) ↦[pW l]{fullShare} f))
      ∗ (bigSep Finset.univ fun l : LN => ownG (F := F) l.1 l.2 c)
      ∗ bigSep Finset.univ fun x : X => iprop(ghostX x c ∗ landAny (F := F) x (dest x c)))
      ⊢ bigSep Finset.univ fun l : LN => laneIn P l.1 l.2 c := by
    rw [bigSep_lanes fun x => iprop(ghostX x c ∗ landAny (F := F) x (dest x c)), ← bigSep_sep', ← bigSep_sep', ← bigSep_sep']
    exact bigSep_mono fun l _ => lane_in P l.1 l.2 c
  rw [← bigSep_sep' Finset.univ (fun x : X => ghostX (F := F) x c)]
  exact (BIClass.sep_mono (Entails.of_eq (whole_lanes (F := F) (ℓ := (c : Thread nD τ).loc cc0_scratch0) pW pW_disj pW_cover (arr2 (P c))))
    (sep_mono_left (whole_lanes_any (F := F) (ℓ := (c : Thread nD τ).loc cc0_stg2_0) pW pW_disj pW_cover))).trans h

/-! ## After -/

/-- What the result holds in the end. -/
def outF (c : Dev nD) : S1536x1536.Idx → F .f32 := arr2 fun r k => Res P ⟨r / 512 % 3, Nat.mod_lt _ (Nat.succ_pos 2)⟩ c r k

section
variable (p : Fin 3) (q : Fin 2) (c : Dev nD)

/-- What a lane holds after its last stage. -/
def laneMid : sProp 𝕄 := iprop(((((pend (0, p, q) c ∗ left1 P p q c) ∗ left2 P p q c) ∗ left3 P p q c) ∗ left4 P p q c) ∗ left5 P p q c)

/-- The memory among that. -/
def keepMem : sProp 𝕄 :=
  iprop(recvPay P (0, p, q) c ∗ recvPay P (1, p, q) c ∗ recvPay P (2, p, q) c ∗ recvPay P (4, p, q) c
    ∗ pPt c (rk1 p c) 128 q fullShare.right (arr2 (A2 P p c)) ∗ gPt c p q (rs1 p c) 128 fullShare.left (arr4 (AG P p c))
    ∗ oPt c (rs0 p c) 256 q (arr2 (Res P p c)) ∗ oPt c (rs1 p c) 128 q (arr2 (Res P p c)) ∗ oPt c (rk1 p c) 128 q (arr2 (Res P p c)))
def atR (x : X) (c : Dev nD) : sProp 𝕄 := atPos ER (rcvCell x c) 1 ∅ 0
def atS (x : X) (c : Dev nD) : sProp 𝕄 := atPos ER (sndCell x c) 1 ∅ 0

theorem lane_mid : laneMid P p q c ⊢ iprop((pend (0, p, q) c ∗ pend (1, p, q) c ∗ pend (2, p, q) c ∗ pend (3, p, q) c ∗ pend (4, p, q) c)
    ∗ (atR (0, p, q) c ∗ atR (1, p, q) c ∗ atR (2, p, q) c ∗ atR (3, p, q) c ∗ atR (4, p, q) c) ∗ keepMem P p q c) := by
  unfold laneMid left1 left2 left3 left4 left5 keepMem atR
  iintro ⟨⟨⟨⟨⟨P0, P1, T0, V0⟩, P2, T1, V1⟩, P3, T2, V2, Hp, Ho1⟩, P4, T3, Hg, Ho2⟩, T4, V4, Ho3⟩
  isplitl [P0 P1 P2 P3 P4]
  · isplitl [P0]; · iexact P0
    isplitl [P1]; · iexact P1
    isplitl [P2]; · iexact P2
    isplitl [P3] <;> iassumption
  isplitl [T0 T1 T2 T3 T4]
  · isplitl [T0]; · iexact T0
    isplitl [T1]; · iexact T1
    isplitl [T2]; · iexact T2
    isplitl [T3] <;> iassumption
  isplitl [V0]; · iexact V0
  isplitl [V1]; · iexact V1
  isplitl [V2]; · iexact V2
  isplitl [V4]; · iexact V4
  isplitl [Hp]; · iexact Hp
  isplitl [Hg]; · iexact Hg
  isplitl [Ho3]; · iexact Ho3
  isplitl [Ho2] <;> iassumption

/-- Rows of the partial products held at two contents, as rows holding something. -/
theorem pPt_join (r r' n n' : ℕ) (f g : S1536x1536.Idx → F .bf16) (h : r + n ≤ r' ∨ r' + n' ≤ r) :
    iprop(pPt c r n q fullShare f ∗ pPt c r' n' q fullShare g) ⊢ (iprop(∃ f, ((c : Thread nD τ).loc cc0_scratch0) ↦[band r n q ∪ band r' n' q]{fullShare} f) : sProp 𝕄) := by
  unfold pPt
  iintro H
  ihave H := (pointsTo_join (ℓ := (c : Thread nD τ).loc cc0_scratch0) (band_disj h)) $$ H
  iexists _; iexact H

theorem lane_out : iprop((sendPay P (0, p, q) c ∗ sendPay P (1, p, q) c ∗ sendPay P (2, p, q) c ∗ sendPay P (3, p, q) c ∗ sendPay P (4, p, q) c)
      ∗ keepMem P p q c ∗ spare p q c)
    ⊢ iprop((∃ f, ((c : Thread nD τ).loc cc0_scratch0) ↦[pW (p, q)]{fullShare} f) ∗ (∃ f, ((c : Thread nD τ).loc cc0_scratch1) ↦[rW (p, q)]{fullShare} f)
      ∗ (∃ f, ((c : Thread nD τ).loc cc0_scratch2) ↦[gW (p, q)]{fullShare} f) ∗ (((c : Thread nD τ).loc cc0_stg2_0) ↦[pW (p, q)]{fullShare} outF P c)) := by
  have hb := rows_bounds p c
  have ho : (((c : Thread nD τ).loc cc0_stg2_0) ↦[pW (p, q)]{fullShare} arr2 (Res P p c) : sProp 𝕄)
      = (((c : Thread nD τ).loc cc0_stg2_0) ↦[pW (p, q)]{fullShare} outF P c) :=
    pointsTo_congr fun i hi => by
      have h : 512 * p.val ≤ (i 0).val ∧ (i 0).val < 512 * p.val + 512 := (mem_band.mp hi).1
      have hp : (⟨(i 0).val / 512 % 3, Nat.mod_lt _ (Nat.succ_pos 2)⟩ : Fin 3) = p := Fin.ext (by show (i 0).val / 512 % 3 = p.val; omega)
      show Res P p c _ _ = Res P ⟨(i 0).val / 512 % 3, _⟩ c _ _
      rw [hp]
  unfold keepMem
  iintro ⟨⟨S0, S1, S2, S3, S4⟩, ⟨V0, V1, V2, V4, Hp, Hg, Ho1, Ho2, Ho3⟩, Hs⟩
  isplitl [S0 S1 S2 Hp]
  · ihave S2 := (Entails.of_eq (show sendPay P (2, p, q) c = pPt c (rk1 p c) 128 q fullShare.left (arr2 (A2 P p c)) from rfl)) $$ S2
    ihave Hp := (pPt_share (rk1 p c) 128 q c (arr2 (A2 P p c))).2 $$ [S2 Hp]
    · isplitl [S2]; · iexact S2
      iexact Hp
    ihave S1 := (Entails.of_eq (show sendPay P (1, p, q) c = pPt c (rs1 p c) 128 q fullShare (arr2 (A1 P p c)) from rfl)) $$ S1
    ihave S0 := (Entails.of_eq (show sendPay P (0, p, q) c = pPt c (rs0 p c) 256 q fullShare (arr2 (P c)) from rfl)) $$ S0
    ihave H := (pPt_join q c (rs1 p c) (rk1 p c) 128 128 _ _ (by omega)) $$ [S1 Hp]
    · isplitl [S1] <;> iassumption
    rw [← band_half p q c]
    icases H with ⟨%f, H⟩
    ihave H := (pPt_join q c (rs0 p c) (rk0 p c) 256 256 _ f (by omega)) $$ [S0 H]
    · isplitl [S0]; · iexact S0
      unfold pPt; iexact H
    rw [← band_part p q c]
    iexact H
  isplitl [V0 V1 V2 Hs]
  · iapply (r_close p q c)
    isplitl [V0 V1 V2]
    · isplitl [V0]; · iapply (show recvPay P (0, p, q) c ⊢ landAny (0, p, q) c from by dsimp only [recvPay, landAny]; iintro H; iexists _; iexact H); iexact V0
      isplitl [V1]; · iapply (show recvPay P (1, p, q) c ⊢ landAny (1, p, q) c from by dsimp only [recvPay, landAny]; iintro H; iexists _; iexact H); iexact V1
      iapply (show recvPay P (2, p, q) c ⊢ landAny (2, p, q) c from by dsimp only [recvPay, landAny]; iintro H; iexists _; iexact H); iexact V2
    iexact Hs
  isplitl [S3 S4 V4 Hg]
  · iexists arr4 (AG P p c)
    iapply (g_lane p q c (arr4 (AG P p c))).2
    ihave S3 := (Entails.of_eq (show sendPay P (3, p, q) c = gPt c p q (rk1 p c) 128 fullShare.left (arr4 (AG P p c)) from rfl)) $$ S3
    ihave S4 := (Entails.of_eq (show sendPay P (4, p, q) c = gPt c p q (rk0 p c) 256 fullShare.right (arr4 (AG P p c)) from rfl)) $$ S4
    ihave S4 := (gPt_halves p q c fullShare.right (arr4 (AG P p c))).1 $$ S4
    icases S4 with ⟨S4, S4'⟩
    isplitl [V4]; · iapply (Entails.of_eq (show recvPay P (4, p, q) c = gPt c p q (rs0 p c) 256 fullShare (arr4 (AG P p c)) from rfl)); iexact V4
    isplitl [Hg S4]
    · iapply (gPt_share p q (rs1 p c) 128 c (arr4 (AG P p c))).2
      isplitl [Hg] <;> iassumption
    iapply (gPt_share p q (rk1 p c) 128 c (arr4 (AG P p c))).2
    isplitl [S3]; · iexact S3
    iexact S4'
  iapply (Entails.of_eq ho)
  iapply (o_lane p q c (arr2 (Res P p c))).2
  isplitl [Ho1]; · iexact Ho1
  isplitl [Ho2] <;> iassumption
end

/-! ### All lanes together -/

theorem lanes_mid (c : Dev nD) : (bigSep Finset.univ fun l : LN => laneMid P l.1 l.2 c)
    ⊢ iprop((bigSep Finset.univ fun x : X => pend x c) ∗ (bigSep Finset.univ fun x : X => atR x c) ∗ bigSep Finset.univ fun l : LN => keepMem P l.1 l.2 c) := by
  rw [bigSep_lanes fun x => pend (F := F) x c, bigSep_lanes fun x => atR (F := F) x c, ← bigSep_sep', ← bigSep_sep']
  exact bigSep_mono fun l _ => lane_mid P l.1 l.2 c

theorem bigSep_persist {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- Something for each of a device's semaphores: the barrier's, and both of every transfer. -/
theorem bigSep_ki (Φ : KI → sProp (MT nD τ sig Unit (Elt F) ℕ UU ℕ)) : bigSep Finset.univ Φ
    = iprop(Φ none ∗ (bigSep Finset.univ fun x : X => Φ (some (false, x))) ∗ bigSep Finset.univ fun x : X => Φ (some (true, x))) := by
  have h : (Finset.univ : Finset KI).erase none = Finset.univ.map Function.Embedding.some := by
    ext i; rcases i with _ | i <;> simp
  rw [bigSep_univ_at Φ none, h, bigSep_map, bigSep_univ_prod]
  rw [bigSep_univ_eq_bigSepL [false, true] (by decide) (by decide)]
  rfl

/-- Every semaphore closed at zero. -/
theorem close_all (c : Dev nD) : iprop(recs P K ∗ atPos ER (barCell c) 1 ∅ 0 ∗ (bigSep Finset.univ fun x : X => atS x c) ∗ bigSep Finset.univ fun x : X => atR x c)
    ⊢ (|={Set.univ}=> bigSep Finset.univ fun i : KI => semVal (kcell (c, i)) 0 : sProp 𝕄) := by
  have h : iprop(recs P K ∗ bigSep Finset.univ fun i : KI => atPos ER (kcell (c, i)) 1 ∅ 0)
      ⊢ (|={Set.univ}=> bigSep Finset.univ fun i : KI => semVal (kcell (c, i)) 0 : sProp 𝕄) :=
    (bigSep_persist fun i _ => (sep_mono_left (recs_inv P K (c, i))).trans
      (Rounds.cell_close ER (Rd P) (Set.mem_univ (K (c, i))) (fun h => h) (R := 0 + 1) (duties_later P (kcell (c, i))))).trans (bigSep_fupd _ _)
  rw [bigSep_ki fun i => (atPos ER (kcell (c, i)) 1 ∅ 0 : sProp 𝕄)] at h
  exact h

/-- The buffers whole again, the result computed, and every semaphore at zero. -/
theorem finish (c : Dev nD) :
    iprop(recs P K ∗ atPos ER (barCell c) 1 ∅ 0 ∗ (bigSep Finset.univ fun x : X => gone P x c) ∗ (bigSep Finset.univ fun x : X => atR x c)
      ∗ (bigSep Finset.univ fun l : LN => keepMem P l.1 l.2 c) ∗ bigSep Finset.univ fun l : LN => spare l.1 l.2 c)
      ⊢ (|={Set.univ}=> iprop((∃ f, ((c : Thread nD τ).loc cc0_scratch0) ↦{fullShare} f) ∗ (∃ f, ((c : Thread nD τ).loc cc0_scratch1) ↦{fullShare} f)
        ∗ (∃ f, ((c : Thread nD τ).loc cc0_scratch2) ↦{fullShare} f) ∗ (((c : Thread nD τ).loc cc0_stg2_0) ↦{fullShare} outF P c)
        ∗ bigSep Finset.univ fun i : KI => semVal (kcell (c, i)) 0) : sProp 𝕄) := by
  have hl : iprop((bigSep Finset.univ fun x : X => sendPay P x c) ∗ (bigSep Finset.univ fun l : LN => keepMem P l.1 l.2 c) ∗ bigSep Finset.univ fun l : LN => spare l.1 l.2 c)
      ⊢ iprop((bigSep Finset.univ fun l : LN => iprop(∃ f, ((c : Thread nD τ).loc cc0_scratch0) ↦[pW l]{fullShare} f))
        ∗ (bigSep Finset.univ fun l : LN => iprop(∃ f, ((c : Thread nD τ).loc cc0_scratch1) ↦[rW l]{fullShare} f))
        ∗ (bigSep Finset.univ fun l : LN => iprop(∃ f, ((c : Thread nD τ).loc cc0_scratch2) ↦[gW l]{fullShare} f))
        ∗ (bigSep Finset.univ fun l : LN => (((c : Thread nD τ).loc cc0_stg2_0) ↦[pW l]{fullShare} outF P c : sProp 𝕄))) := by
    rw [bigSep_lanes fun x => sendPay P x c, ← bigSep_sep', ← bigSep_sep', ← bigSep_sep', ← bigSep_sep', ← bigSep_sep']
    exact bigSep_mono fun l _ => lane_out P l.1 l.2 c
  have hg : (bigSep Finset.univ fun x : X => gone P x c) = iprop((bigSep Finset.univ fun x : X => atS x c) ∗ bigSep Finset.univ fun x : X => sendPay P x c) :=
    (bigSep_congr fun x _ => rfl).trans (bigSep_sep' Finset.univ (fun x : X => atS (F := F) x c) (fun x : X => sendPay P x c))
  rw [hg]
  iintro ⟨Hrec, Hb, ⟨HaS, Hs⟩, HaR, Hk, Hsp⟩
  imod (close_all P K c) $$ [Hrec Hb HaS HaR] with Hz
  · isplitl [Hrec]; · iexact Hrec
    isplitl [Hb]; · iexact Hb
    isplitl [HaS] <;> iassumption
  imodintro
  ihave H := hl $$ [Hs Hk Hsp]
  · isplitl [Hs]; · iexact Hs
    isplitl [Hk] <;> iassumption
  icases H with ⟨Hp, Hr, Hg, Ho⟩
  isplitl [Hp]
  · iapply (lanes_whole (F := F) (ℓ := (c : Thread nD τ).loc cc0_scratch0) pW pW_disj pW_cover (arr2 (P c))); iexact Hp
  isplitl [Hr]
  · iapply (lanes_whole (F := F) (ℓ := (c : Thread nD τ).loc cc0_scratch1) rW rW_disj rW_cover (arr5 (P c))); iexact Hr
  isplitl [Hg]
  · iapply (lanes_whole (F := F) (ℓ := (c : Thread nD τ).loc cc0_scratch2) gW gW_disj gW_cover (arr4 (P c))); iexact Hg
  isplitl [Ho]
  · iapply (Entails.of_eq (whole_lanes (F := F) (ℓ := (c : Thread nD τ).loc cc0_stg2_0) pW pW_disj pW_cover (outF P c)).symm); iexact Ho
  iexact Hz

/-! ### The sending waits -/

/-- The transfers of a list started and not yet known to have left. -/
def pends (c : Dev nD) : List X → sProp 𝕄
  | [] => iprop(emp)
  | x :: l => iprop(pend x c ∗ pends c l)
/-- The transfers of a list gone. -/
def gones (c : Dev nD) : List X → sProp 𝕄
  | [] => iprop(emp)
  | x :: l => iprop(gone P x c ∗ gones c l)

theorem pends_of (c : Dev nD) (l : List X) (hl : l.Nodup) : (bigSep l.toFinset fun x => pend (F := F) x c) ⊢ pends c l := by
  induction l with
  | nil => exact Entails.of_eq (by rw [List.toFinset_nil, bigSep_empty]; rfl)
  | cons x l ih =>
    rw [List.toFinset_cons, bigSep_insert (fun h => (List.nodup_cons.mp hl).1 (List.mem_toFinset.mp h))]
    exact sep_mono_right (ih (List.nodup_cons.mp hl).2)
theorem gones_to (c : Dev nD) (l : List X) (hl : l.Nodup) : gones P c l ⊢ bigSep l.toFinset fun x => gone P x c := by
  induction l with
  | nil => exact Entails.of_eq (by rw [List.toFinset_nil, bigSep_empty]; rfl)
  | cons x l ih =>
    rw [List.toFinset_cons, bigSep_insert (fun h => (List.nodup_cons.mp hl).1 (List.mem_toFinset.mp h))]
    exact sep_mono_right (ih (List.nodup_cons.mp hl).2)

set_option maxRecDepth 4000 in
theorem pends_all (c : Dev nD) : (bigSep Finset.univ fun x : X => pend (F := F) x c) ⊢ pends c order := by
  rw [show (Finset.univ : Finset X) = order.toFinset by decide]; exact pends_of c order (by decide)
set_option maxRecDepth 4000 in
theorem gones_all (c : Dev nD) : gones P c order.reverse ⊢ bigSep Finset.univ fun x : X => gone P x c := by
  rw [show (Finset.univ : Finset X) = order.reverse.toFinset by decide]; exact gones_to P c order.reverse (by decide)

/-- The next transfer's sending wait. -/
theorem wait_next (c : Dev nD) {α : Type} {Q : α → sProp (MT nD τ sig Unit (Elt F) ℕ UU ℕ)} (x : X) (l l' : List X) {sm : DmaSem sig} (hsm : sm = xsem false x := by rfl)
    {sp sp' : Space} {s s' : Shape} {e e' : EltTy} {κ' : Kind} {src : Memref sig .tc sp' s' e'} {dst : Memref sig κ' sp s e}
    {h1 : src.view.WordExact} {h2 : dst.view.WordExact} {k : PUnit → Prog (TpuEff nD τ sig (Elt F) Λ₀ .tc) α}
    (hN : dst.view.dmaCredit = credit x := by rfl) :
    iprop(recs P K ∗ (pends c (x :: l) ∗ gones P c l') ∗ ow c (debt c []))
      ⊢ iprop(((pends c l ∗ gones P c (x :: l')) ∗ ow c (debt c []) -∗ run c (k ⟨⟩) Q) -∗ run c (.op (.waitDma2 sm src dst h1 h2) k) Q) := by
  show iprop(recs P K ∗ ((pend x c ∗ pends c l) ∗ gones P c l') ∗ ow c (debt c [])) ⊢ iprop(((pends c l ∗ (gone P x c ∗ gones P c l')) ∗ ow c (debt c []) -∗ _) -∗ _)
  iintro ⟨Hrec, ⟨⟨Hp, Hl⟩, Hg⟩, HO⟩ Hk
  iapply (wait_snd P K c x hsm hN) $$ [Hrec Hp HO]
  · isplitl [Hrec]; · iexact Hrec
    isplitl [Hp] <;> iassumption
  iintro ⟨Hd, HO⟩
  iapply Hk
  isplitl [Hl Hg Hd]
  · isplitl [Hl]; · iexact Hl
    isplitl [Hd] <;> iassumption
  iexact HO

end Cert.CubeProof
-- ==== Proof.Body.lean ====
/- The kernel's body on one device, run from its start to its end. -/
module

public import proofs.«01_k».proof.Proof.Ends

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

variable (P : Dev nD → ℕ → ℕ → F .bf16) (K : Dev nD × KI → ℕ)

section
variable {c : Dev nD} {α β : Type} {Q : α → sProp (MT nD τ sig Unit (Elt F) ℕ UU ℕ)} {A L1 L2 L3 L4 L5 L6 a b Fr G : sProp (MT nD τ sig Unit (Elt F) ℕ UU ℕ)}
  {O O' : CellTallies nD τ sig Unit} {prog prog' : Prog (TpuEff nD τ sig (Elt F) Λ₀ .tc) α}

/-- One lane of the six takes a step and goes to the back of the queue. -/
theorem turn (h : iprop(A ∗ a ∗ ow c O) ⊢ iprop((b ∗ ow c O' -∗ run c prog' Q) -∗ run c prog Q)) [BI.Persistent A]
    (h' : iprop(A ∗ (L2 ∗ L3 ∗ L4 ∗ L5 ∗ L6 ∗ b) ∗ ow c O' ∗ Fr) ⊢ run c prog' Q) :
    iprop(A ∗ (a ∗ L2 ∗ L3 ∗ L4 ∗ L5 ∗ L6) ∗ ow c O ∗ Fr) ⊢ run c prog Q := by
  iintro ⟨#HA, ⟨Ha, H2, H3, H4, H5, H6⟩, HO, HF⟩
  iapply h $$ [Ha HO]
  · isplitr; · iexact HA
    isplitl [Ha] <;> iassumption
  iintro ⟨Hb, HO⟩
  iapply h'
  isplitr; · iexact HA
  isplitr [HO HF]
  · isplitl [H2]; · iexact H2
    isplitl [H3]; · iexact H3
    isplitl [H4]; · iexact H4
    isplitl [H5]; · iexact H5
    isplitl [H6] <;> iassumption
  isplitl [HO] <;> iassumption

/-- A step of the whole state. -/
theorem step (h : iprop(A ∗ a ∗ ow c O) ⊢ iprop((b ∗ ow c O' -∗ run c prog' Q) -∗ run c prog Q)) [BI.Persistent A]
    (h' : iprop(A ∗ b ∗ ow c O' ∗ Fr) ⊢ run c prog' Q) :
    iprop(A ∗ a ∗ ow c O ∗ Fr) ⊢ run c prog Q := by
  iintro ⟨#HA, Ha, HO, HF⟩
  iapply h $$ [Ha HO]
  · isplitr; · iexact HA
    isplitl [Ha] <;> iassumption
  iintro ⟨Hb, HO⟩
  iapply h'
  isplitr; · iexact HA
  isplitl [Hb]; · iexact Hb
  isplitl [HO] <;> iassumption

/-- The state replaced by what it entails. -/
theorem become (h : a ⊢ b) (h' : iprop(A ∗ b ∗ ow c O ∗ Fr) ⊢ run c prog Q) : iprop(A ∗ a ∗ ow c O ∗ Fr) ⊢ run c prog Q :=
  (sep_mono_right (sep_mono_left h)).trans h'

/-- Part of the state put with what is not touched. -/
theorem put_by (h' : iprop(A ∗ a ∗ ow c O ∗ b ∗ Fr) ⊢ run c prog Q) : iprop(A ∗ (a ∗ b) ∗ ow c O ∗ Fr) ⊢ run c prog Q := by
  refine BIBase.Entails.trans ?_ h'
  iintro ⟨HA, ⟨Ha, Hb⟩, HO, HF⟩
  isplitl [HA]; · iexact HA
  isplitl [Ha]; · iexact Ha
  isplitl [HO]; · iexact HO
  isplitl [Hb] <;> iassumption
end

/-- The six lanes from the first stage's order to that of the later ones, each with its parts arranged for the second stage. -/
theorem reorder (c : Dev nD) {N R D : LN → sProp (MT nD τ sig Unit (Elt F) ℕ UU ℕ)} {T : LN → sProp (MT nD τ sig Unit (Elt F) ℕ UU ℕ)} :
    iprop((D (0, 0) ∗ T (0, 0) ∗ N (0, 0) ∗ R (0, 0)) ∗ (D (0, 1) ∗ T (0, 1) ∗ N (0, 1) ∗ R (0, 1)) ∗ (D (1, 0) ∗ T (1, 0) ∗ N (1, 0) ∗ R (1, 0))
        ∗ (D (1, 1) ∗ T (1, 1) ∗ N (1, 1) ∗ R (1, 1)) ∗ (D (2, 0) ∗ T (2, 0) ∗ N (2, 0) ∗ R (2, 0)) ∗ (D (2, 1) ∗ T (2, 1) ∗ N (2, 1) ∗ R (2, 1)))
      ⊢ (iprop((T (0, 0) ∗ (N (0, 0) ∗ R (0, 0)) ∗ D (0, 0)) ∗ (T (1, 0) ∗ (N (1, 0) ∗ R (1, 0)) ∗ D (1, 0)) ∗ (T (2, 0) ∗ (N (2, 0) ∗ R (2, 0)) ∗ D (2, 0))
        ∗ (T (0, 1) ∗ (N (0, 1) ∗ R (0, 1)) ∗ D (0, 1)) ∗ (T (1, 1) ∗ (N (1, 1) ∗ R (1, 1)) ∗ D (1, 1)) ∗ (T (2, 1) ∗ (N (2, 1) ∗ R (2, 1)) ∗ D (2, 1))) : sProp 𝕄) := by
  have h (l : LN) : iprop(D l ∗ T l ∗ N l ∗ R l) ⊢ (iprop(T l ∗ (N l ∗ R l) ∗ D l) : sProp 𝕄) := by
    iintro ⟨HD, HT, HN, HR⟩
    isplitl [HT]; · iexact HT
    isplitr [HD]; · isplitl [HN] <;> iassumption
    iexact HD
  iintro ⟨H1, H2, H3, H4, H5, H6⟩
  isplitl [H1]; · iapply (h (0, 0)); iexact H1
  isplitl [H3]; · iapply (h (1, 0)); iexact H3
  isplitl [H5]; · iapply (h (2, 0)); iexact H5
  isplitl [H2]; · iapply (h (0, 1)); iexact H2
  isplitl [H4]; · iapply (h (1, 1)); iexact H4
  iapply (h (2, 1)); iexact H6

/-- The six lanes, in the later stages' order, are all the lanes. -/
theorem six_all (Φ : LN → sProp (MT nD τ sig Unit (Elt F) ℕ UU ℕ)) :
    iprop(Φ (0, 0) ∗ Φ (1, 0) ∗ Φ (2, 0) ∗ Φ (0, 1) ∗ Φ (1, 1) ∗ Φ (2, 1)) ⊢ bigSep Finset.univ Φ :=
  Entails.of_eq (bigSep_univ_eq_bigSepL [(0, 0), (1, 0), (2, 0), (0, 1), (1, 1), (2, 1)] (by decide) (by decide) Φ).symm

/-! ## The partial product -/

/-- A device's partial product at a row and column, from its two blocks. -/
def prod (x : S1536x768.Idx → F .f32) (y : S768x1536.Idx → F .f32) (r k : ℕ) : F .bf16 :=
  if h : r < 1536 ∧ k < 1536 then k0_pay1 x y (ix2 ⟨r, h.1⟩ ⟨k, h.2⟩) else Scalar.ofBits .bf16 0

theorem arr2_prod (x : S1536x768.Idx → F .f32) (y : S768x1536.Idx → F .f32) : arr2 (prod x y) = k0_pay1 x y := by
  funext i
  have h0 : (i 0).val < 1536 := (i 0).isLt
  have h1 : (i 1).val < 1536 := (i 1).isLt
  unfold arr2 prod
  rw [dif_pos ⟨h0, h1⟩]
  congr 1
  funext a; fin_cases a <;> rfl

theorem hz2 : (![0, 0] : Fin 2 → ℕ) = fun _ => 0 := funext fun a => by fin_cases a <;> rfl

section
variable {c : Dev nD} {α : Type} {Q : α → sProp (MT nD τ sig Unit (Elt F) ℕ UU ℕ)} {Fr : sProp (MT nD τ sig Unit (Elt F) ℕ UU ℕ)}

/-- Both blocks loaded, and their product stored. -/
theorem load_mul {x : S1536x768.Idx → F .f32} {y : S768x1536.Idx → F .f32} {b1 b2 b3 b4 l1 l2 l3 x1 m1}
    {k : PUnit → Prog (TpuEff nD τ sig (Elt F) Λ₀ .tc) α} :
    iprop((((c : Thread nD τ).loc cc0_stg0_0) ↦{fullShare} x) ∗ (((c : Thread nD τ).loc cc0_stg1_0) ↦{fullShare} y)
        ∗ (∃ f, ((c : Thread nD τ).loc cc0_scratch0) ↦{fullShare} f))
      ⊢ iprop(((((c : Thread nD τ).loc cc0_stg0_0) ↦{fullShare} x) ∗ (((c : Thread nD τ).loc cc0_stg1_0) ↦{fullShare} y)
          ∗ (((c : Thread nD τ).loc cc0_scratch0) ↦{fullShare} arr2 (prod x y)) -∗ run c (k ⟨⟩) Q)
        -∗ run c (.op (.load aM (Rect.unit (s := S1536x768) ![0, 0] S1536x768.size b1).toLoadRect l1) fun v =>
          .op (.load bM (Rect.unit (s := S768x1536) ![0, 0] S768x1536.size b2).toLoadRect l2) fun w =>
          .op (.load pM (Rect.unit (s := S1536x1536) ![0, 0] S1536x1536.size b3).toLoadRect l3) fun _ =>
          .op (.store pM (Rect.unit (s := S1536x1536) ![0, 0] S1536x1536.size b4) (k0_pay1 v w) Finset.univ x1 m1) k) Q) := by
  iintro ⟨Hx, Hy, ⟨%f, Hp⟩⟩ Hk
  iapply (wp_load 𝒱₀ (c : Thread nD τ) none Set.univ (m := aM) (Finset.subset_univ _)) $$ Hx; iintro Hx
  iapply (wp_load 𝒱₀ (c : Thread nD τ) none Set.univ (m := bM) (Finset.subset_univ _)) $$ Hy; iintro Hy
  iapply (wp_load 𝒱₀ (c : Thread nD τ) none Set.univ (m := pM) (Finset.subset_univ _)) $$ Hp; iintro Hp
  iapply (wp_store 𝒱₀ (c : Thread nD τ) none Set.univ (m := pM) (r := Rect.unit (s := S1536x1536) ![0, 0] S1536x1536.size b4) (Mk := Finset.univ) (Finset.subset_univ _)) $$ Hp; iintro Hp
  rw [show aM.view.readAt (Elt F) (Rect.unit (s := S1536x768) ![0, 0] S1536x768.size b1).toLoadRect x = x from
      Memref.readAt_unit_zero (Elt F) cc0_stg0_0 hz2 _ x,
    show bM.view.readAt (Elt F) (Rect.unit (s := S768x1536) ![0, 0] S768x1536.size b2).toLoadRect y = y from
      Memref.readAt_unit_zero (Elt F) cc0_stg1_0 hz2 _ y, arr2_prod]
  rw [show (pM.access (Rect.unit (s := S1536x1536) ![0, 0] S1536x1536.size b4)).write (Elt F) f (k0_pay1 x y) Finset.univ = k0_pay1 x y from
      Memref.write_access_unit_zero_univ (Elt F) cc0_scratch0 hz2 _ f _]
  iapply Hk
  isplitl [Hx]; · iexact Hx
  isplitl [Hy] <;> iassumption
end

/-! ## The body -/

section
variable (a : Dev nD → S1536x768.Idx → F .f32) (b : Dev nD → S768x1536.Idx → F .f32)

/-- Every device's partial product. -/
def part (c : Dev nD) : ℕ → ℕ → F .bf16 := prod (a c) (b c)

/-- What device `c` starts its body with besides memory: the records, its barrier tokens and position, and each transfer's ghost state. -/
def ghost (c : Dev nD) : sProp 𝕄 :=
  iprop(recs (part a b) K ∗ (dutyTok ER (barCell (peer 0 c)) 0 0 ∗ dutyTok ER (barCell (peer 1 c)) 0 1 ∗ dutyTok ER (barCell (peer 2 c)) 0 2)
    ∗ (atPos ER (barCell c) 0 ∅ 0 ∗ cred (tallyAt (barCell c) () 3)) ∗ bigSep Finset.univ fun x : X => ghostX x c)

/-- The three scratch arrays, holding anything. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- What the body ends with. -/
def bodyEnd (c : Dev nD) : sProp 𝕄 :=
  iprop((scr c ∗ bigSep Finset.univ fun i : KI => semVal (kcell (c, i)) 0) ∗ ow c 0
    ∗ (((c : Thread nD τ).loc cc0_stg0_0) ↦{fullShare} a c) ∗ (((c : Thread nD τ).loc cc0_stg1_0) ↦{fullShare} b c)
    ∗ (((c : Thread nD τ).loc cc0_stg2_0) ↦{fullShare} outF (part a b) c))

/-- The lanes as the stages begin, and what no stage touches. -/
def lanes₀ (c : Dev nD) : sProp 𝕄 :=
  iprop(laneIn (part a b) 0 0 c ∗ laneIn (part a b) 0 1 c ∗ laneIn (part a b) 1 0 c ∗ laneIn (part a b) 1 1 c ∗ laneIn (part a b) 2 0 c ∗ laneIn (part a b) 2 1 c)
def aside (c : Dev nD) (Q : PUnit → sProp (MT nD τ sig Unit (Elt F) ℕ UU ℕ)) : sProp 𝕄 :=
  iprop(atPos ER (barCell c) 1 ∅ 0 ∗ (bigSep Finset.univ fun l : LN => spare (F := F) l.1 l.2 c)
    ∗ (((c : Thread nD τ).loc cc0_stg0_0) ↦{fullShare} a c) ∗ (((c : Thread nD τ).loc cc0_stg1_0) ↦{fullShare} b c) ∗ (bodyEnd a b c -∗ Q ⟨⟩))

/-- The body up to its first transfer: the neighbours told, the product stored, and the wait for theirs. -/
theorem prologue (c : Dev nD) {Q : PUnit → sProp (MT nD τ sig Unit (Elt F) ℕ UU ℕ)} {n0 n1 n2 : Dev nD}
    {b1 b2 b3 b4 l1 l2 l3 x1 m1} {k : PUnit → Prog (TpuEff nD τ sig (Elt F) Λ₀ .tc) PUnit}
    (h : iprop(recs (part a b) K ∗ lanes₀ a b c ∗ ow c (O₃ c) ∗ aside a b c Q) ⊢ run c (k ⟨⟩) Q)
    (h0 : n0 = peer 0 c := by decide +revert) (h1 : n1 = peer 1 c := by decide +revert) (h2 : n2 = peer 2 c := by decide +revert) :
    iprop(((ghost K a b c ∗ scr c) ∗ ow c (O₀ c) ∗ (((c : Thread nD τ).loc cc0_stg0_0) ↦{fullShare} a c)
        ∗ (((c : Thread nD τ).loc cc0_stg1_0) ↦{fullShare} b c) ∗ (∃ f, ((c : Thread nD τ).loc cc0_stg2_0) ↦{fullShare} f))
        ∗ (bodyEnd a b c -∗ Q ⟨⟩))
      ⊢ run c (.op (.semSignal (n0 : Thread nD τ) barS 1) fun _ => .op (.semSignal (n1 : Thread nD τ) barS 1) fun _ =>
          .op (.semSignal (n2 : Thread nD τ) barS 1) fun _ =>
          .op (.load aM (Rect.unit (s := S1536x768) ![0, 0] S1536x768.size b1).toLoadRect l1) fun v =>
          .op (.load bM (Rect.unit (s := S768x1536) ![0, 0] S768x1536.size b2).toLoadRect l2) fun w =>
          .op (.load pM (Rect.unit (s := S1536x1536) ![0, 0] S1536x1536.size b3).toLoadRect l3) fun _ =>
          .op (.store pM (Rect.unit (s := S1536x1536) ![0, 0] S1536x1536.size b4) (k0_pay1 v w) Finset.univ x1 m1) fun _ =>
          .op (.semWait barS 3) k) Q := by
  unfold ghost scr
  iintro ⟨⟨⟨⟨#Hrec, ⟨T0, T1, T2⟩, Hbar, HX⟩, Hp, Hr, Hg⟩, HO, Ha, Hb, Ho⟩, Hk⟩
  ihave Hpl := (places c) $$ [Hr Hg]
  · isplitl [Hr] <;> iassumption
  icases Hpl with ⟨⟨P0, P1, P2⟩, Hspare, HG⟩
  iapply (signal_bar (part a b) K c 0 n0 h0 (O₀ c) (O₁ c) rfl) $$ [T0 P0 HO]
  · isplitr; · iexact Hrec
    isplitl [T0]; · iexact T0
    isplitl [P0] <;> iassumption
  iintro HO
  iapply (signal_bar (part a b) K c 1 n1 h1 (O₁ c) (O₂ c) rfl) $$ [T1 P1 HO]
  · isplitr; · iexact Hrec
    isplitl [T1]; · iexact T1
    isplitl [P1] <;> iassumption
  iintro HO
  iapply (signal_bar (part a b) K c 2 n2 h2 (O₂ c) (O₃ c) rfl) $$ [T2 P2 HO]
  · isplitr; · iexact Hrec
    isplitl [T2]; · iexact T2
    isplitl [P2] <;> iassumption
  iintro HO
  iapply load_mul $$ [Ha Hb Hp]
  · isplitl [Ha]; · iexact Ha
    isplitl [Hb] <;> iassumption
  iintro ⟨Ha, Hb, Hp⟩
  icases Hbar with ⟨Hat, Hcr⟩
  iapply (wait_bar (part a b) K c) $$ [Hat Hcr HO]
  · isplitr; · iexact Hrec
    isplitl [Hat]; · iexact Hat
    isplitl [Hcr] <;> iassumption
  iintro ⟨Hat, Hland, HO⟩
  ihave HL := (lanes_in (part a b) c) $$ [Hp Ho HG HX Hland]
  · isplitl [Hp]; · iexact Hp
    isplitl [Ho]; · iexact Ho
    isplitl [HG]; · iexact HG
    isplitl [HX] <;> iassumption
  ihave HL := (Entails.of_eq (bigSep_six fun l : LN => laneIn (part a b) l.1 l.2 c)) $$ HL
  iapply h
  isplitr; · iexact Hrec
  isplitl [HL]; · unfold lanes₀; iexact HL
  isplitl [HO]; · iexact HO
  unfold aside
  isplitl [Hat]; · iexact Hat
  isplitl [Hspare]; · iexact Hspare
  isplitl [Ha]; · iexact Ha
  isplitl [Hb] <;> iassumption

/-- The last waits done, all is handed back. -/
theorem epilogue (c : Dev nD) {Q : PUnit → sProp (MT nD τ sig Unit (Elt F) ℕ UU ℕ)} :
    iprop(recs (part a b) K ∗ (pends c [] ∗ gones (part a b) c order.reverse) ∗ ow c (debt c [])
        ∗ ((bigSep Finset.univ fun x : X => atR x c) ∗ bigSep Finset.univ fun l : LN => keepMem (part a b) l.1 l.2 c) ∗ aside a b c Q)
      ⊢ run c (Prog.ret PUnit.unit) Q := by
  unfold aside
  iintro ⟨#Hrec, ⟨-, Hg⟩, HO, ⟨HR, Hm⟩, Hat, Hspare, Ha, Hb, Hk⟩
  ihave Hg := (gones_all (part a b) c) $$ Hg
  imod (finish (part a b) K c) $$ [Hat Hg HR Hm Hspare] with ⟨F0, F1, F2, Ho, Hz⟩
  · isplitr; · iexact Hrec
    isplitl [Hat]; · iexact Hat
    isplitl [Hg]; · iexact Hg
    isplitl [HR]; · iexact HR
    isplitl [Hm] <;> iassumption
  rw [wp_ret]; imodintro
  iapply Hk
  unfold bodyEnd scr
  isplitl [F0 F1 F2 Hz]
  · isplitr [Hz]
    · isplitl [F0]; · iexact F0
      isplitl [F1] <;> iassumption
    iexact Hz
  isplitl [HO]; · iexact HO
  isplitl [Ha]; · iexact Ha
  isplitl [Hb] <;> iassumption

/-- The lanes done, sorted into the transfers to wait for and the rest. -/
theorem sorted (c : Dev nD) : (bigSep Finset.univ fun l : LN => laneMid (part a b) l.1 l.2 c)
    ⊢ iprop((pends c order ∗ gones (part a b) c [])
      ∗ ((bigSep Finset.univ fun x : X => atR x c) ∗ bigSep Finset.univ fun l : LN => keepMem (part a b) l.1 l.2 c)) := by
  iintro H
  ihave H := (lanes_mid (part a b) c) $$ H
  icases H with ⟨H1, H2, H3⟩
  isplitl [H1]
  · isplitl
    · iapply (pends_all c); iexact H1
    unfold gones; iempintro
  isplitl [H2] <;> iassumption

set_option maxRecDepth 65536 in
set_option maxHeartbeats 0 in
/-- The body run on device `c`: from the records, the ghost state, the scratch arrays and the staged blocks to the staged result and every semaphore at zero. -/
theorem sound_body (c : Dev nD) (Q : PUnit → sProp (MT nD τ sig Unit (Elt F) ℕ UU ℕ)) :
    iprop(((ghost K a b c ∗ scr c) ∗ ow c (O₀ c) ∗ (((c : Thread nD τ).loc cc0_stg0_0) ↦{fullShare} a c)
        ∗ (((c : Thread nD τ).loc cc0_stg1_0) ↦{fullShare} b c) ∗ (∃ f, ((c : Thread nD τ).loc cc0_stg2_0) ↦{fullShare} f))
        ∗ (bodyEnd a b c -∗ Q ⟨⟩))
      ⊢ run c (cc0_body aM (Memref.isWhole_whole _) bM (Memref.isWhole_whole _) oM (Memref.isWhole_whole _) pM (Memref.isWhole_whole _)
          rM (Memref.isWhole_whole _) gM (Memref.isWhole_whole _) cc0_scratch3 cc0_scratch4 cc0_scratch5 cc0_scratch6) Q := by
  simp only [cc0_body_eq_skeleton, cc0_body_skel, k0_part1_eq_skeleton, k0_part1_skel, k0_part2_eq_skeleton, k0_part2_skel, k0_part3_eq_skeleton,
    k0_part3_skel, k0_part4_eq_skeleton, k0_part4_skel, k0_part5_eq_skeleton, k0_part5_skel, k0_part6_eq_skeleton, k0_part6_skel, k0_part7_eq_skeleton,
    k0_part7_skel, k0_part8_eq_skeleton, k0_part8_skel, k0_part9_eq_skeleton, k0_part9_skel, k0_part10_eq_skeleton, k0_part10_skel,
    k0_part11_eq_skeleton, k0_part11_skel, k0_part12_eq_skeleton, k0_part12_skel, k0_part13_eq_skeleton, k0_part13_skel, k0_part14_eq_skeleton,
    k0_part14_skel, k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel, k0_part21_eq_skeleton,
    k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton,
    k0_part28_skel, k0_part29_eq_skeleton, k0_part29_skel, k0_part30_eq_skeleton, k0_part30_skel, k0_part31_eq_skeleton, k0_part31_skel,
    k0_part32_eq_skeleton, k0_part32_skel, k0_part33_eq_skeleton, k0_part33_skel, k0_part34_eq_skeleton, k0_part34_skel, k0_part35_eq_skeleton,
    k0_part35_skel, k0_part36_eq_skeleton, k0_part36_skel, k0_part37_eq_skeleton, k0_part37_skel, k0_part38_eq_skeleton, k0_part38_skel,
    k0_part39_eq_skeleton, k0_part39_skel, k0_part40_eq_skeleton, k0_part40_skel, k0_part41_eq_skeleton, k0_part41_skel, k0_part42_eq_skeleton,
    k0_part42_skel, k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel, k0_part49_eq_skeleton,
    k0_part49_skel, semSignalWord, semWaitWord, Prog.lift, Prog.bind_op, Prog.bind_ret, Prog.pure_eq_ret, Prog.bind_assoc, wp_deviceId]
  refine prologue K a b c ?_
  unfold lanes₀ laneIn
  iterate 6 refine turn (stage0 (part a b) K c _ _ _) ?_
  refine become (reorder c (D := fun l => pend (0, l.1, l.2) c) (T := fun l => pPt c (rk0 l.1 c) 256 l.2 fullShare (arr2 (part a b c)))
    (N := fun l => needs1 l.1 l.2 c) (R := fun l => iprop(needs2 l.1 l.2 c ∗ (needs3 l.1 l.2 c ∗ (needs4 l.1 l.2 c ∗ needs5 l.1 l.2 c))))) ?_
  iterate 6 refine turn (stage1 (part a b) K c _ _ _) ?_
  iterate 6 refine turn (stage2 (part a b) K c _ _ _) ?_
  iterate 6 refine turn (stage3 (part a b) K c _ _ _) ?_
  iterate 6 refine turn (stage4 (part a b) K c _ _ _) ?_
  iterate 6 refine turn (stage5 (part a b) K c _ _ _) ?_
  refine become ((six_all fun l => laneMid (part a b) l.1 l.2 c).trans (sorted a b c)) (put_by ?_)
  iterate 30 refine step (wait_next (part a b) K c _ _ _) ?_
  exact epilogue K a b c

end
end Cert.CubeProof
-- ==== Proof.Launch.lean ====
/-
The kernel's launch on all eight devices: the ghost state dealt and the tokens handed to the neighbours that spend them,
the credit each device starts with, and the run of the whole program to memory that holds every device's result.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
open Idealize.ShloMosaic.Pipeline (Dat Cfg Window BodyObligation cellOf)

local notation "𝕄" => MT nD τ sig Unit (Elt F) ℕ UU ℕ

variable (m : (ℓ : Loc nD τ sig) → Buf (Elt F) ℓ) (ρ : Dev nD → PrngReg)

/-- The memory a run starts from, every counter at zero. -/
def s₀ : MemSt nD τ sig (Elt F) := ⟨m, fun _ => 0, ρ⟩

/-- The two blocks staged on device `c`. -/
def stA (c : Dev nD) : S1536x768.Idx → F .f32 := (win0_0.blk t0_0).view.read (Elt F) (m ((c : Thread nD τ).loc main_arg0))
def stB (c : Dev nD) : S768x1536.Idx → F .f32 := (win0_1.blk t0_0).view.read (Elt F) (m ((c : Thread nD τ).loc main_arg1))

/-- All devices' partial products, of the memory the run starts from. -/
def PM : Dev nD → ℕ → ℕ → F .bf16 := part (stA m) (stB m)

/-- The tokens, positions and barrier credit-free state of device `c`, at some names of the invariants. -/
def held (x : X) (c : Dev nD) : sProp 𝕄 :=
  iprop(dutyTok ER (sndCell x c) 0 0 ∗ dutyTok ER (rcvCell x (dest x c)) 0 0 ∗ atPos ER (sndCell x c) 0 ∅ 0 ∗ atPos ER (rcvCell x c) 0 ∅ 0)

/-- The records without the levels. -/
def recs₀ (K : Dev nD × KI → ℕ) : sProp 𝕄 :=
  iprop((bigSep Finset.univ fun ck : Dev nD × KI => cellInv ER (Rd (PM m)) (K ck) (kcell ck))
    ∗ bigSep Finset.univ fun ck : Dev nD × KI => reached ER (kcell ck) 0)

instance recs₀_persistent (K : Dev nD × KI → ℕ) : BI.Persistent (recs₀ m K) := by unfold recs₀; infer_instance

def barToks (c : Dev nD) : sProp 𝕄 :=
  iprop(dutyTok ER (barCell (peer 0 c)) 0 0 ∗ dutyTok ER (barCell (peer 1 c)) 0 1 ∗ dutyTok ER (barCell (peer 2 c)) 0 2)

/-- What the launch makes of the ghost state for device `c`. -/
def G' (c : Dev nD) : sProp 𝕄 :=
  iprop(∃ K, recs₀ m K ∗ barToks c ∗ atPos ER (barCell c) 0 ∅ 0 ∗ bigSep Finset.univ fun x : X => held x c)

/-- What device `c`'s body starts from besides memory. -/
def start (c : Dev nD) : sProp 𝕄 := iprop(∃ K, ghost K (stA m) (stB m) c)

def Φ₀ (c : Dev nD) : sProp 𝕄 := iprop(start m c ∗ scr c)
def Φ₁ (c : Dev nD) : sProp 𝕄 := iprop(scr (F := F) c ∗ bigSep Finset.univ fun i : KI => semVal (kcell (c, i)) 0)

/-- The proof data of the one call: its arrays' contents before and after, the body's state on either side, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stA m c
    | ⟨1, _⟩ => stB m c
    | ⟨2, _⟩ => outF (PM m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (stA m c) ∗ stg c cc0_stg1_0 (stB m c) ∗ stg c cc0_stg2_0 (outF (PM m) c))

set_option maxRecDepth 65536 in
/-- The body's run, as the pipeline asks for it. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole]
  show bodyPre m ρ c ⊢ run c (cc0_body aM (Memref.isWhole_whole _) bM (Memref.isWhole_whole _) oM (Memref.isWhole_whole _) pM (Memref.isWhole_whole _)
          rM (Memref.isWhole_whole _) gM (Memref.isWhole_whole _) cc0_scratch3 cc0_scratch4 cc0_scratch5 cc0_scratch6) (fun _ => bodyPost m ρ c)
  unfold bodyPre Φ₀ start
  iintro ⟨⟨⟨%K, Hg⟩, Hscr⟩, Ho, ⟨%d0, %g0, %h0, Ha⟩, ⟨%d1, %g1, %h1, Hb⟩, ⟨%d2, %g2, %h2, Hout⟩⟩
  have hx : g0 = stA m c := by rw [h0]; unfold Dat.before; rw [if_pos (fetch0_0 t0_0)]; rfl
  have hy : g1 = stB m c := by rw [h1]; unfold Dat.before; rw [if_pos (fetch0_1 t0_0)]; rfl
  subst hx hy
  unfold Dat.owesAt Pipeline.owesWithin
  icases Ho with ⟨%W, %hW, HO⟩
  rw [show (dats m ρ 0 c).owed t0_0.castSucc = O₀ c from rfl]
  iapply (sound_body K (stA m) (stB m) c fun _ => bodyPost m ρ c)
  isplitr []
  · isplitl [Hg Hscr]; · isplitl [Hg] <;> iassumption
    isplitl [HO]; · unfold ow; iexists W; iexact HO
    isplitl [Ha]; · iexact Ha
    isplitl [Hb]; · iexact Hb
    iexists g2; iexact Hout
  unfold bodyEnd bodyPost Φ₁ ow Dat.owesAt Pipeline.owesWithin
  rw [show (dats m ρ 0 c).owed t0_0.succ = 0 from rfl]
  iintro ⟨HΦ, ⟨%W', HO⟩, Ha, Hb, Ho⟩
  isplitl [HΦ]; · iexact HΦ
  isplitl [HO]
  · iexists W'; isplitr; · (ipureintro; exact fun _ _ => Or.inl trivial)
    iexact HO
  isplitl [Ha]
  · iexists (stA m c); isplitr; · (ipureintro; rfl)
    iexact Ha
  isplitl [Hb]
  · iexists (stB m c); isplitr; · (ipureintro; rfl)
    iexact Hb
  iexists (outF (PM m) c); isplitr; · (ipureintro; rfl)
  iexact Ho

/-! ## Dealing the ghost state -/

/-- The transfers' semaphores, the kernel's own. -/
abbrev osem (y : Bool × X) : SemLoc sig := csem (some y)

theorem ownSemFacts : Pipeline.OwnSemFacts cfg0.spec osem where
  isScoped y := by revert y; decide
  inj y y' h := Option.some.inj (csem_inj h)
  disj y w s h := by
    have h' : 3 ≤ semNo y.1 y.2 := by unfold semNo; split <;> split <;> omega
    have h2 : semNo y.1 y.2 = ((cfg0.win w).sem s).val := congrArg Fin.val (SemLoc.dma.inj h)
    have h3 : ∀ (w : Fin 3) (s : Fin (cfg0.win w).nbuf), ((cfg0.win w).sem s).val < 3 := by decide
    have := h3 w s
    omega

theorem share_eq (c : Dev nD) (w : Fin cfg0.W) : (dats m ρ 0 c).share w = fullShare := by unfold Dat.share; split <;> rfl

def cells : Finset (GSem nD τ sig) := Finset.univ.map ⟨kcell, kcell_inj⟩

/-- The duty tokens minted for device `c`: its barrier's three and one for each of its transfers' semaphores. -/
abbrev tokOf (cj : Dev nD × (Fin 3 ⊕ Bool × X)) : GSem nD τ sig × ℕ × Fin 3 := match cj.2 with
  | .inl d => (barCell cj.1, 0, d)
  | .inr y => (kcell (cj.1, some y), 0, 0)
theorem tokOf_inj : Function.Injective tokOf := by
  rintro ⟨c, d | y⟩ ⟨c', d' | y'⟩ h
  · have h1 := kcell_inj (congrArg (fun x : GSem nD τ sig × ℕ × Fin 3 => x.1) h)
    have h2 : d = d' := congrArg (fun x : GSem nD τ sig × ℕ × Fin 3 => x.2.2) h
    rw [h2, show c = c' from congrArg Prod.fst h1]
  · exact absurd (congrArg Prod.snd (kcell_inj (congrArg (fun x : GSem nD τ sig × ℕ × Fin 3 => x.1) h))) (fun h => by cases h)
  · exact absurd (congrArg Prod.snd (kcell_inj (congrArg (fun x : GSem nD τ sig × ℕ × Fin 3 => x.1) h))) (fun h => by cases h)
  · have h1 := kcell_inj (congrArg (fun x : GSem nD τ sig × ℕ × Fin 3 => x.1) h)
    rw [show c = c' from congrArg Prod.fst h1, show y = y' from Option.some.inj (congrArg Prod.snd h1)]
def minted : Finset (GSem nD τ sig × ℕ × Fin 3) := Finset.univ.map ⟨tokOf, tokOf_inj⟩

def u₀ : UU := (initOf (Pipeline.cells cfgs cellOf_inj) (Pipeline.launchToks cfgs cellOf_inj), initOf cells minted)

def toks (c : Dev nD) : sProp 𝕄 :=
  iprop((bigSep Finset.univ fun d : Fin 3 => dutyTok ER (barCell c) 0 d) ∗ bigSep Finset.univ fun y : Bool × X => dutyTok ER (kcell (c, some y)) 0 0)

/-- What the launch deals device `c`: its cells' round states, positions and reached marks, and its minted tokens. -/
def G (c : Dev nD) : sProp 𝕄 :=
  iprop((bigSep Finset.univ fun k : KI => roundState ER (Rd (PM m)) (kcell (c, k)) 0)
    ∗ (bigSep Finset.univ fun k : KI => iprop(atPos ER (kcell (c, k)) 0 ∅ 0 ∗ reached ER (kcell (c, k)) 0)) ∗ toks c)

theorem fund_all : BI.own (ER (initOf cells minted)) ⊢ (|==> bigSep Finset.univ (G m) : sProp 𝕄) := by
  have hX (Φ : GSem nD τ sig → sProp (MT nD τ sig Unit (Elt F) ℕ UU ℕ)) :
      bigSep cells Φ = bigSep Finset.univ fun c : Dev nD => bigSep Finset.univ fun k : KI => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod]
    exact bigSep_congr fun c _ => by unfold toks; rw [bigSep_univ_sum]; rfl
  iintro HX
  imod (Rounds.fund ER (Rd (PM m)) cells minted) $$ HX with ⟨Hst, Hr, Hat, Htok⟩
  imodintro
  ihave Hst := (Entails.of_eq (hX fun g => roundState ER (Rd (PM m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- Something for each of a device's semaphores: the barrier's, and the transfers'. -/
theorem bigSep_bar (Φ : KI → sProp (MT nD τ sig Unit (Elt F) ℕ UU ℕ)) : bigSep Finset.univ Φ
    = iprop(Φ none ∗ bigSep Finset.univ fun y : Bool × X => Φ (some y)) := by
  have h : (Finset.univ : Finset KI).erase none = Finset.univ.map Function.Embedding.some := by
    ext i; rcases i with _ | i <;> simp
  rw [bigSep_univ_at Φ none, h, bigSep_map]
  rfl

theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : (bigSep Finset.univ fun i : KI => (semVal (kcell (c, i)) 0 : sProp 𝕄))
    = iprop(unscopedSems0 c ∗ Pipeline.ownSems0 (Ix := Unit) (Name := ℕ) (U := UU) (Lvl := ℕ) (Val := Elt F) (τ := τ) osem c) := by
  rw [unscoped_eq, bigSep_bar]; rfl

/-- Every cell's invariant allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (PM m)) κ (kcell (c, k))))
          ∗ (bigSep Finset.univ fun k => iprop(atPos ER (kcell (c, k)) 0 ∅ 0 ∗ reached ER (kcell (c, k)) 0)) ∗ toks c) := by
  have h : iprop((bigSep Finset.univ fun k : KI => semVal (kcell (c, k)) 0) ∗ bigSep Finset.univ fun k : KI => roundState ER (Rd (PM m)) (kcell (c, k)) 0)
      ⊢ (|={Set.univ}=> bigSep Finset.univ fun k => iprop(∃ κ : ℕ, cellInv ER (Rd (PM m)) κ (kcell (c, k))) : sProp 𝕄) := by
    rw [← bigSep_sep']
    exact (bigSep_mono fun k _ => (Rounds.body_intro ER (Rd (PM m)) (kcell (c, k))).trans inv_alloc).trans (bigSep_fupd _ _)
  unfold G
  iintro ⟨Hos, Hus, Hst, Hat, Htok⟩
  ihave Hv := (Entails.of_eq (sems_eq (F := F) c).symm) $$ [Hos Hus]
  · isplitl [Hus] <;> iassumption
  imod h $$ [Hv Hst] with Hinv
  · isplitl [Hv] <;> iassumption
  imodintro
  isplitl [Hinv]; · iexact Hinv
  isplitl [Hat] <;> iassumption

def destE (x : X) : Dev nD ≃ Dev nD := ⟨dest x, dest x, dest_dest x, dest_dest x⟩

/-- The minted tokens dealt to the devices that spend them. -/
theorem toks_dealt : (bigSep Finset.univ fun c : Dev nD => (toks c : sProp 𝕄))
    ⊢ bigSep Finset.univ fun c : Dev nD => iprop(barToks c ∗ (bigSep Finset.univ fun x : X => dutyTok ER (sndCell x c) 0 0)
        ∗ bigSep Finset.univ fun x : X => dutyTok ER (rcvCell x (dest x c)) 0 0) := by
  have hb : (bigSep Finset.univ fun c : Dev nD => bigSep Finset.univ fun d : Fin 3 => (dutyTok ER (barCell c) 0 d : sProp 𝕄))
      = bigSep Finset.univ fun c : Dev nD => barToks c := by
    unfold barToks
    rw [bigSep_congr (s := Finset.univ) fun c _ => bigSep_univ_eq_bigSepL [(0 : Fin 3), 1, 2] (by decide) (by decide) fun d : Fin 3 => (dutyTok ER (barCell c) 0 d : sProp 𝕄)]
    show (bigSep Finset.univ fun c : Dev nD => iprop(dutyTok ER (barCell c) 0 0 ∗ dutyTok ER (barCell c) 0 1 ∗ dutyTok ER (barCell c) 0 2)) = _
    rw [bigSep_sep', bigSep_sep', bigSep_sep', bigSep_sep',
      bigSep_univ_equiv (flip 0) (fun c : Dev nD => (dutyTok ER (barCell c) 0 0 : sProp 𝕄)),
      bigSep_univ_equiv (flip 1) (fun c : Dev nD => (dutyTok ER (barCell c) 0 1 : sProp 𝕄)),
      bigSep_univ_equiv (flip 2) (fun c : Dev nD => (dutyTok ER (barCell c) 0 2 : sProp 𝕄))]
    rfl
  have hr : (bigSep Finset.univ fun c : Dev nD => bigSep Finset.univ fun x : X => (dutyTok ER (rcvCell x c) 0 0 : sProp 𝕄))
      = bigSep Finset.univ fun c : Dev nD => bigSep Finset.univ fun x : X => dutyTok ER (rcvCell x (dest x c)) 0 0 := by
    rw [← bigSep_univ_prod (fun cx : Dev nD × X => (dutyTok ER (rcvCell cx.2 cx.1) 0 0 : sProp 𝕄)),
      ← bigSep_univ_prod (fun cx : Dev nD × X => (dutyTok ER (rcvCell cx.2 (dest cx.2 cx.1)) 0 0 : sProp 𝕄)),
      bigSep_univ_equiv (⟨fun cx : Dev nD × X => (dest cx.2 cx.1, cx.2), fun cx => (dest cx.2 cx.1, cx.2),
        fun cx => Prod.ext (dest_dest cx.2 cx.1) rfl, fun cx => Prod.ext (dest_dest cx.2 cx.1) rfl⟩ : Dev nD × X ≃ Dev nD × X) (fun cx : Dev nD × X => (dutyTok ER (rcvCell cx.2 cx.1) 0 0 : sProp 𝕄))]
    rfl
  have hy (c : Dev nD) : (bigSep Finset.univ fun y : Bool × X => (dutyTok ER (kcell (c, some y)) 0 0 : sProp 𝕄))
      = iprop((bigSep Finset.univ fun x : X => dutyTok ER (sndCell x c) 0 0) ∗ bigSep Finset.univ fun x : X => dutyTok ER (rcvCell x c) 0 0) := by
    rw [bigSep_univ_prod, bigSep_univ_eq_bigSepL [false, true] (by decide) (by decide)]; rfl
  unfold toks
  rw [bigSep_sep', hb, bigSep_congr fun c _ => hy c, bigSep_sep', hr, bigSep_sep', bigSep_sep']

/-- A device's share of the dealt state, at given names. -/
theorem deal_one (K : Dev nD × KI → ℕ) (c : Dev nD) :
    iprop(recs₀ m K ∗ (bigSep Finset.univ fun k : KI => atPos ER (kcell (c, k)) 0 ∅ 0)
        ∗ barToks c ∗ (bigSep Finset.univ fun x : X => dutyTok ER (sndCell x c) 0 0) ∗ bigSep Finset.univ fun x : X => dutyTok ER (rcvCell x (dest x c)) 0 0)
      ⊢ G' m c := by
  unfold G'
  have h : (bigSep Finset.univ fun x : X => (held x c : sProp 𝕄)) = iprop((bigSep Finset.univ fun x : X => dutyTok ER (sndCell x c) 0 0)
      ∗ (bigSep Finset.univ fun x : X => dutyTok ER (rcvCell x (dest x c)) 0 0)
      ∗ (bigSep Finset.univ fun x : X => atPos ER (sndCell x c) 0 ∅ 0) ∗ bigSep Finset.univ fun x : X => atPos ER (rcvCell x c) 0 ∅ 0) := by
    unfold held; rw [bigSep_sep', bigSep_sep', bigSep_sep']
  rw [h, bigSep_ki fun k => (atPos ER (kcell (c, k)) 0 ∅ 0 : sProp 𝕄)]
  iintro ⟨Hr, ⟨H0, HS, HR⟩, Hb, Hs, Ht⟩
  iexists K
  isplitl [Hr]; · iexact Hr
  isplitl [Hb]; · iexact Hb
  isplitl [H0]; · iexact H0
  isplitl [Hs]; · iexact Hs
  isplitl [Ht]; · iexact Ht
  isplitl [HS] <;> iassumption

theorem regroup :
    (bigSep Finset.univ fun c : Dev nD => iprop((bigSep Finset.univ fun k => iprop(∃ κ : ℕ, cellInv ER (Rd (PM m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (Rd (PM m)) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd (PM m)) κ (kcell ck) : sProp 𝕄))) $$ HI
  icases HK with ⟨%K, #HI⟩
  ihave Htk := (toks_dealt (F := F)) $$ Htok
  iapply (bigSep_persist (R := recs₀ m K) fun c _ => deal_one m K c)
  isplitr
  · unfold recs₀; isplitl; · iexact HI
    iexact HR
  · iapply (Entails.of_eq (bigSep_sep' Finset.univ (fun c : Dev nD => bigSep Finset.univ fun k : KI => (atPos ER (kcell (c, k)) 0 ∅ 0 : sProp 𝕄)) _).symm)
    isplitl [Hat]; · iexact Hat
    iexact Htk

/-- All the devices' semaphores and ghost state, dealt at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

theorem bar_ne_rcv (x : X) (c d : Dev nD) : barCell c ≠ rcvCell x d := fun h => by cases congrArg Prod.snd (kcell_inj h)

/-- What device `d` owes a barrier: a unit to each of its three neighbours'. -/
theorem owed_bar (d c : Dev nD) :
    O₀ d (barCell c) () = (if d = peer 2 c then 1 else 0) + (if d = peer 1 c then 1 else 0) + (if d = peer 0 c then 1 else 0) := by
  have h (k : Fin 3) : (tallyAt (barCell (peer k d)) () 1 : CellTallies nD τ sig Unit) (barCell c) () = if d = peer k c then 1 else 0 := by
    rw [tallyAt_apply]
    by_cases h : d = peer k c
    · subst h; rw [peer_peer, if_pos ⟨rfl, rfl⟩, if_pos rfl]
    · rw [if_neg (fun ⟨h1, _⟩ => h (by rw [show c = peer k d from congrArg Prod.fst (kcell_inj h1), peer_peer])), if_neg h]
  have h0 : O₃ d (barCell c) () = 0 := by
    by_contra hn
    obtain ⟨x, _, he⟩ := debt_pos (Nat.pos_of_ne_zero hn)
    exact bar_ne_rcv x c _ he
  unfold O₀ O₁ O₂
  rw [Pi.add_apply, Finsupp.add_apply, Pi.add_apply, Finsupp.add_apply, Pi.add_apply, Finsupp.add_apply, h0, h 0, h 1, h 2, Nat.zero_add]

theorem debt_at (d c : Dev nD) (x : X) (l : List X) : debt d l (rcvCell x c) () = l.count x * (if d = dest x c then credit x else 0) := by
  induction l with
  | nil => rw [List.count_nil, Nat.zero_mul]; rfl
  | cons y l ih =>
    unfold debt
    rw [Pi.add_apply, Finsupp.add_apply, ih, tallyAt_apply, List.count_cons, Nat.add_mul]
    congr 1
    by_cases hy : y = x
    · subst hy
      rw [if_pos (beq_self_eq_true y), Nat.one_mul]
      by_cases h : d = dest y c
      · subst h; rw [dest_dest, if_pos ⟨rfl, rfl⟩, if_pos rfl]
      · rw [if_neg (fun ⟨h1, _⟩ => h (by rw [show c = dest y d from congrArg Prod.fst (kcell_inj h1), dest_dest])), if_neg h]
    · rw [if_neg (fun ⟨h1, _⟩ => hy (congrArg Prod.snd (Option.some.inj (congrArg Prod.snd (kcell_inj h1)))).symm),
        if_neg (fun h => hy (eq_of_beq h)), Nat.zero_mul]

set_option maxRecDepth 4000 in
theorem order_count (x : X) : order.count x = 1 := by revert x; decide

theorem owed_rcv (d c : Dev nD) (x : X) : O₀ d (rcvCell x c) () = if d = dest x c then credit x else 0 := by
  have h (k : Fin 3) : (tallyAt (barCell (peer k d)) () 1 : CellTallies nD τ sig Unit) (rcvCell x c) () = 0 := by
    rw [tallyAt_apply, if_neg fun ⟨h1, _⟩ => bar_ne_rcv _ _ _ h1.symm]
  unfold O₀ O₁ O₂ O₃
  rw [Pi.add_apply, Finsupp.add_apply, Pi.add_apply, Finsupp.add_apply, Pi.add_apply, Finsupp.add_apply, h 0, h 1, h 2, debt_at, order_count,
    Nat.one_mul, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_rcv (x : X) (c : Dev nD) :
    tallyOn (rcvCell x c) (launchCredit (Pipeline.owing O₀) 0 (rcvCell x c)) = (tallyAt (rcvCell x c) () (credit x) : CellTallies nD τ sig Unit) := by
  unfold tallyAt; refine congrArg _ (Finsupp.ext fun u => ?_); cases u
  rw [Pipeline.launchCredit_owing, Finsupp.single_eq_same, Finset.sum_congr rfl fun d _ => owed_rcv d c x]
  simp only [Finset.sum_ite_eq', Finset.mem_univ, if_true]

def rcvE : X ↪ SemLoc sig := ⟨fun x => csem (some (true, x)), fun x y h => congrArg Prod.snd (Option.some.inj (csem_inj h))⟩

theorem creds (c : Dev nD) : (Pipeline.launchCred O₀ c : sProp 𝕄)
    ⊢ iprop(cred (tallyAt (barCell c) () 3) ∗ bigSep Finset.univ fun x : X => cred (tallyAt (rcvCell x c) () (credit x))) := by
  unfold Pipeline.launchCred
  rw [bigSep_univ_at _ (SemLoc.reg barS)]
  refine BIClass.sep_mono (Entails.of_eq (congrArg cred (launch_bar c))) ?_
  refine (bigSep_subset (t := Finset.univ.map rcvE) fun s hs => ?_).trans ?_
  · obtain ⟨x, _, rfl⟩ := Finset.mem_map.mp hs
    exact Finset.mem_erase.mpr ⟨fun h => (by cases h), Finset.mem_univ _⟩
  · rw [bigSep_map]
    exact bigSep_mono fun x _ => Entails.of_eq (congrArg cred (launch_rcv x c))

/-! ## The rest of what the launch asks for -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have h : iprop((bigSep Finset.univ fun x : X => held x c) ∗ bigSep Finset.univ fun x : X => cred (tallyAt (rcvCell x c) () (credit x)))
      ⊢ (bigSep Finset.univ fun x : X => ghostX x c : sProp 𝕄) := by
    have h1 (x : X) : iprop(held x c ∗ cred (tallyAt (rcvCell x c) () (credit x))) ⊢ (ghostX x c : sProp 𝕄) := by
      unfold held ghostX rcv
      iintro ⟨⟨H1, H2, H3, H4⟩, H5⟩
      isplitl [H1]; · iexact H1
      isplitl [H2]; · iexact H2
      isplitl [H3]; · iexact H3
      isplitl [H4] <;> iassumption
    rw [← bigSep_sep']
    exact bigSep_mono fun x _ => h1 x
  unfold start G' ghost recs₀ recs barToks
  iintro ⟨-, Hlev, Hcr, -, ⟨%K, ⟨HI, HR⟩, Hb, Hat, Hh⟩⟩
  ihave Hc := (creds (F := F) c) $$ Hcr
  icases Hc with ⟨H1, HN⟩
  imodintro
  isplitl
  · iexists K
    isplitl [HI HR Hlev]
    · isplitl [HI]; · iexact HI
      isplitl [HR] <;> iassumption
    isplitl [Hb]; · iexact Hb
    isplitl [Hat H1]; · isplitl [Hat] <;> iassumption
    iapply h
    isplitl [Hh] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems_eq]
  iintro ⟨Hr, Hu, Ho⟩
  isplitl [Hu]; · iexact Hu
  isplitl [Ho] <;> iassumption

theorem stage_dec (w : Fin cfg0.W) (s : Fin (cfg0.win w).nbuf) : dec (.dma ((cfg0.win w).sem s)) = none := by
  cases h : dec (.dma ((cfg0.win w).sem s)) with
  | none => rfl
  | some i =>
    have h' := csem_dec h
    rcases i with _ | y
    · cases h'
    · exact absurd h'.symm (ownSemFacts.disj y w s)

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_dec w s) _ (by
      rcases t with ⟨_ | _, ht⟩
      · exact Or.inl rfl
      · exact Or.inr rfl)

/-! ## The run -/

/-- What the run leaves: every window's array on every device as the proof data says. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 65536 in
/-- From any memory with zero counters, for any float values: every weakly fair run of the program on the eight devices
    terminates, with each device's arrays as the proof data says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operands' arrays after the run hold what they held. -/
theorem keeps_arg0 (c : Dev nD) : (dats m ρ 0 c).arrAt (0 : Fin 3) cfg0.N = (s₀ m ρ).mem (win0_0.arr.view.loc (c : Thread nD τ)) :=
  (dats (F := F) m ρ 0 c).arrAt_in (0 : Fin 3) rfl _
theorem keeps_arg1 (c : Dev nD) : (dats m ρ 0 c).arrAt (1 : Fin 3) cfg0.N = (s₀ m ρ).mem (win0_1.arr.view.loc (c : Thread nD τ)) :=
  (dats (F := F) m ρ 0 c).arrAt_in (1 : Fin 3) rfl _

end Cert.CubeProof
-- ==== Proof.Values.lean ====
/-
What the kernel computes when floats are extended reals: each device's result is the product of the whole arrays, summed over
the eight devices' shares of the contracted dimension and clipped below at zero.
-/
module

public import proofs.«01_k».proof.Proof.Launch
public import Idealize.ShloMosaic.Lib.Pipeline.Value
public import Idealize.ShloMosaic.Lib.Layout
public import Idealize.ShloMosaic.Lib.Pointwise
public import Idealize.ShloMosaic.Lib.Pointwise.IndexBridge

@[expose] public section

noncomputable section

namespace Cert.CubeProof

open Cert.KernelIdeal Cert.KernelIdeal.Gen
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

section anyFloats
variable {F : FTy → Type} [FloatOps F] (m : (ℓ : Loc nD τ sig) → Buf (Elt F) ℓ) (ρ : Dev nD → PrngReg)

/-- Each window's block is the whole of its array: an element's place in the block is its place in the array. -/
theorem whole_A (i : S1536x768.Idx) : (win0_0.blk t0_0).view.emb i = i := by
  funext a; match a with
  | ⟨0, _⟩ => exact Fin.ext ((Nat.zero_add _).trans (Nat.one_mul (i 0 : ℕ)))
  | ⟨1, _⟩ => exact Fin.ext ((Nat.zero_add _).trans (Nat.one_mul (i 1 : ℕ)))
theorem whole_B (i : S768x1536.Idx) : (win0_1.blk t0_0).view.emb i = i := by
  funext a; match a with
  | ⟨0, _⟩ => exact Fin.ext ((Nat.zero_add _).trans (Nat.one_mul (i 0 : ℕ)))
  | ⟨1, _⟩ => exact Fin.ext ((Nat.zero_add _).trans (Nat.one_mul (i 1 : ℕ)))
theorem whole_out (i : S1536x1536.Idx) : (win0_2.blk t0_0).view.emb i = i := by
  funext a; match a with
  | ⟨0, _⟩ => exact Fin.ext ((Nat.zero_add _).trans (Nat.one_mul (i 0 : ℕ)))
  | ⟨1, _⟩ => exact Fin.ext ((Nat.zero_add _).trans (Nat.one_mul (i 1 : ℕ)))

/-- So the staged operands are the operands. -/
theorem stA_eq (c : Dev nD) : stA m c = m ((c : Thread nD τ).loc main_arg0) :=
  funext fun i => (View.read_apply ..).trans (congrArg (m ((c : Thread nD τ).loc main_arg0)) (whole_A i))
theorem stB_eq (c : Dev nD) : stB m c = m ((c : Thread nD τ).loc main_arg1) :=
  funext fun i => (View.read_apply ..).trans (congrArg (m ((c : Thread nD τ).loc main_arg1)) (whole_B i))

/-- And the result array ends at what the body leaves in its staging buffer. -/
theorem final_out (c : Dev nD) : (dats m ρ 0 c).arrAt (2 : Fin 3) cfg0.N = outF (PM m) c := by
  refine (dats m ρ 0 c).arrAt_eq_of_cover (2 : Fin 3) (outF (PM m) c) (fun t _ => ?_) (fun i => ⟨t0_0, flush0_2 _, ?_⟩)
  · obtain rfl : t = t0_0 := Fin.ext (Nat.lt_one_iff.1 t.isLt)
    exact funext fun i => (congrArg (outF (PM m) c) (whole_out i)).symm
  · exact (whole_out i) ▸ (win0_2.blk t0_0).view.emb_mem_set i

end anyFloats

/-! ## The sum over the cube -/

/-- The eight devices, as reached from device `c` by the three stages of part `p`. -/
def corner (p : Fin 3) (c : Dev nD) : Fin 8 → Dev nD :=
  ![c, peer p c, peer (p + 1) c, peer p (peer (p + 1) c),
    peer (p + 2) c, peer p (peer (p + 2) c), peer (p + 1) (peer (p + 2) c), peer p (peer (p + 1) (peer (p + 2) c))]

/-- They are all eight, each once. -/
theorem corner_bijective (p : Fin 3) (c : Dev nD) : Function.Bijective (corner p c) := by
  have h : ∀ (p : Fin 3) (c : Dev nD) (i j : Fin 8), corner p c i = corner p c j → i = j := by decide +kernel
  exact (Fintype.bijective_iff_injective_and_card _).2 ⟨fun i j => h p c i j, rfl⟩

variable (P : Dev nD → ℕ → ℕ → Ideal .bf16)

/-- With exact addition the three stages give the sum over all eight devices, clipped below at zero. -/
theorem A3_eq (p : Fin 3) (c : Dev nD) (r k : ℕ) : A3 P p c r k = (max (∑ d : Dev nD, (P d r k : EReal)) 0 : EReal) := by
  have hs : ∑ d : Dev nD, (P d r k : EReal) = ∑ i : Fin 8, (P (corner p c i) r k : EReal) :=
    ((corner_bijective p c).sum_comp fun d => (P d r k : EReal)).symm
  have h0 : (Scalar.ofBits .bf16 0x0000#16 : Ideal .bf16) = (0 : EReal) := by simp [pointwise]
  rw [hs, Fin.sum_univ_eight]
  show (max (((P c r k : EReal) + P (peer p c) r k + (P (peer (p + 1) c) r k + P (peer p (peer (p + 1) c)) r k))
      + ((P (peer (p + 2) c) r k : EReal) + P (peer p (peer (p + 2) c)) r k
        + (P (peer (p + 1) (peer (p + 2) c)) r k + P (peer p (peer (p + 1) (peer (p + 2) c))) r k)))
      (Scalar.ofBits .bf16 0x0000#16 : Ideal .bf16) : EReal) = _
  rw [h0]
  show _ = (max ((P c r k : EReal) + P (peer p c) r k + P (peer (p + 1) c) r k + P (peer p (peer (p + 1) c)) r k + P (peer (p + 2) c) r k
    + P (peer p (peer (p + 2) c)) r k + P (peer (p + 1) (peer (p + 2) c)) r k + P (peer p (peer (p + 1) (peer (p + 2) c))) r k) 0 : EReal)
  simp only [add_assoc]

/-- Every device's result at row `r`, column `k`. -/
theorem outF_apply (c : Dev nD) (r k : Fin 1536) : outF P c (ix2 r k) = (max (∑ d : Dev nD, (P d r k : EReal)) 0 : EReal) :=
  A3_eq P _ _ _ _

/-! ## The partial products, and the whole product -/

variable (m : (ℓ : Loc nD τ sig) → Buf (Elt Ideal) ℓ)

/-- A partial product at row `r`, column `k`: the row of one operand times the column of the other. -/
theorem pay1_apply (x : S1536x768.Idx → Ideal .f32) (y : S768x1536.Idx → Ideal .f32) (r k : Fin 1536) :
    k0_pay1 (F := Ideal) x y (ix2 r k) = (∑ j : Fin 768, (x (ix2 r j) : EReal) * y (ix2 j k) : EReal) := by
  unfold k0_pay1
  simp [pointwise, ix2_eq_valueIdx]

theorem PM_apply (d : Dev nD) (r k : Fin 1536) :
    PM m d r k = (∑ j : Fin 768, (stA m d (ix2 r j) : EReal) * stB m d (ix2 j k) : EReal) := by
  unfold PM part prod
  rw [dif_pos ⟨r.isLt, k.isLt⟩]
  exact pay1_apply _ _ r k

/-- A sum over the eight devices' shares of the contracted dimension is the sum over the whole of it. -/
theorem sum_shares (f : Fin 6144 → EReal) :
    ∑ d : Dev nD, ∑ j : Fin 768, f ⟨d.val * 768 + j.val, by have : d.val < 8 := d.isLt; have := j.isLt; omega⟩ = ∑ K : Fin 6144, f K := by
  refine (Fintype.sum_prod_type' fun (d : Fin 8) (j : Fin 768) => f ⟨d.val * 768 + j.val, by have := d.isLt; have := j.isLt; omega⟩).symm.trans ?_
  refine Fintype.sum_equiv (finProdFinEquiv (m := 8) (n := 768)) _ _ fun x => congrArg f (Fin.ext ?_)
  show x.1.val * 768 + x.2.val = x.2.val + 768 * x.1.val
  omega

/-- The whole arrays' product, clipped below at zero: what every device's result is when its operands are its shares of the arrays. -/
theorem outF_shares (X : (⟨2, ![1536, 6144]⟩ : Shape).Idx → Ideal .f32) (Y : (⟨2, ![6144, 1536]⟩ : Shape).Idx → Ideal .f32)
    (h : ∀ c : Dev nD, m ((c : Thread nD τ).loc main_arg0) = Layout.block ⟨2, ![1536, 768]⟩ ⟨2, ![1536, 6144]⟩ 1 8 c X
      ∧ m ((c : Thread nD τ).loc main_arg1) = Layout.block ⟨2, ![768, 1536]⟩ ⟨2, ![6144, 1536]⟩ 0 8 c Y) (c : Dev nD) (r k : Fin 1536) :
    outF (PM m) c (ix2 r k) = (max (∑ K : Fin 6144, (X (ix2 r K) : EReal) * Y (ix2 K k)) 0 : EReal) := by
  rw [outF_apply, ← sum_shares fun K => (X (ix2 r K) : EReal) * Y (ix2 K k)]
  refine congrArg (fun s : EReal => max s 0) (Finset.sum_congr rfl fun d _ => ?_)
  rw [PM_apply, stA_eq, stB_eq, (h d).1, (h d).2]
  refine Finset.sum_congr rfl fun j _ => ?_
  rw [Layout.block_apply, Layout.block_apply]
  refine congrArg₂ (fun a b : EReal => a * b) (congrArg X (funext fun a => Fin.ext ?_)) (congrArg Y (funext fun a => Fin.ext ?_))
  · match a with
    | ⟨0, _⟩ => exact (Layout.idx_cols_val _ d _).1
    | ⟨1, _⟩ => exact (Layout.idx_cols_val _ d _).2
  · match a with
    | ⟨0, _⟩ => exact (Layout.idx_rows_val _ d _).1
    | ⟨1, _⟩ => exact (Layout.idx_rows_val _ d _).2

end Cert.CubeProof
-- ==== Proof.lean ====
/-
The certificate: the kernel, its idealization and the reference all terminate and leave their arguments and counters as they
were, the idealization is the kernel's own text, and over the extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Adequacy
public import Idealize.ShloMosaic.Init
public import proofs.«01_k».proof.Proof.Gen.ReferenceIdeal.Run

@[expose] public section

noncomputable section

namespace Cert.Proof

open Idealize.ShloMosaic hiding ix2 eq_ix2
open Idealize.ShloMosaic.TcCoe Idealize.ShloMosaic.ValueIdx Idealize.SL.Sem

/-- Whatever the floats are, the kernel terminates from every memory, leaves its two operands as they were, and leaves every
    counter at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (Cert.CubeProof.keeps_arg0 m g c), (h.1 c (1 : Fin 3)).trans (Cert.CubeProof.keeps_arg1 m g c)⟩, h.2⟩)
    (Cert.CubeProof.run_main m g)

/-- So does the idealized kernel, on extended reals. -/
theorem frame_kernelIdeal : Cert.quiescent_KernelIdeal := fun m g _ => frame_any (F := Ideal) m g

/-- The kernel's text is the idealized kernel's: the two body tables are the same, entry by entry. -/
theorem same_bodies : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun ⟨t, s⟩ => rfl

/-- So are the tables with the pipelines' entries added. -/
theorem same_defs : Cert.Kernel.defs (F := Bits) = Cert.KernelIdeal.defs (F := Bits) :=
  congrArg (Pipeline.defs Cert.KernelIdeal.pcfgs) same_bodies

/-- And so does the kernel itself, on words. -/
theorem frame_kernel : Cert.quiescent_Kernel := fun m g _ => by
  rw [same_defs]
  exact frame_any (F := Bits) m g

/-- The same of the reference, which has no counters. -/
theorem frame_reference : Cert.quiescent_ReferenceIdeal := fun m g _ =>
  (θ_run Cert.ReferenceIdeal.defs _ _).mono
    (fun _ h => ⟨fun c => (h c).2, sem_eq_zero_of_no_sems rfl _⟩)
    (Cert.ReferenceIdeal.Value.run m g)

/-- The reference's result at row `r`, column `k`: the whole product there, clipped below at zero. -/
theorem reference_apply (X : (⟨2, ![1536, 6144]⟩ : Shape).Idx → Ideal .f32) (Y : (⟨2, ![6144, 1536]⟩ : Shape).Idx → Ideal .f32) (r k : Fin 1536) :
    (maximumf (Host.dotGeneral Cert.ReferenceIdeal.dot_S1536x6144_S6144x1536_S1536x1536_1_0_0_1_n_n none X Y)
      (broadcastInDim Cert.ReferenceIdeal.S1536x1536 ![] Cert.ReferenceIdeal.Gen.bcast_S_S1536x1536 (constant Cert.ReferenceIdeal.S_ .f32 0x00000000#32)) :
        Cert.ReferenceIdeal.S1536x1536.Idx → Ideal .f32) (ix2 r k)
      = (max (∑ K : Fin 6144, (X (ix2 r K) : EReal) * Y (ix2 K k)) 0 : EReal) := by
  simp [pointwise, ix2_eq_valueIdx]

/-- Both end with the same result: on every device, the whole product clipped below at zero. -/
theorem algebraic : Cert.algebraic_KernelIdeal_ReferenceIdeal := fun m g m' g' _ h =>
  ⟨_, (θ_run Cert.KernelIdeal.defs _ _).mono
      (fun _ hr c => ⟨((hr.1 c (2 : Fin 3)).trans (Cert.CubeProof.final_out m g c)).trans
          (funext fun i => by
            rw [eq_ix2 i]
            exact (Cert.CubeProof.outF_shares m _ _ h c (i 0) (i 1)).trans (reference_apply _ _ (i 0) (i 1)).symm),
        (hr.1 c (0 : Fin 3)).trans (Cert.CubeProof.keeps_arg0 m g c), (hr.1 c (1 : Fin 3)).trans (Cert.CubeProof.keeps_arg1 m g c)⟩)
      (Cert.CubeProof.run_main (F := Ideal) m g),
    (θ_run Cert.ReferenceIdeal.defs _ _).mono (fun _ hr => hr 0) (Cert.ReferenceIdeal.Value.run m' g')⟩

/-- Everything claimed, with the programs' stated side conditions. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
